-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S20224 : Shape := ⟨1, ![20224]⟩
abbrev S20224x1 : Shape := ⟨2, ![20224, 1]⟩
abbrev S20224x4 : Shape := ⟨2, ![20224, 4]⟩
abbrev S20224x3 : Shape := ⟨2, ![20224, 3]⟩
abbrev S20224x8 : Shape := ⟨2, ![20224, 8]⟩
abbrev S1x20224 : Shape := ⟨2, ![1, 20224]⟩
abbrev S4x20224 : Shape := ⟨2, ![4, 20224]⟩
abbrev S4x79x256 : Shape := ⟨3, ![4, 79, 256]⟩
abbrev S1x79x256 : Shape := ⟨3, ![1, 79, 256]⟩
abbrev S79x256 : Shape := ⟨2, ![79, 256]⟩
abbrev S8x32384 : Shape := ⟨2, ![8, 32384]⟩
abbrev S256x256 : Shape := ⟨2, ![256, 256]⟩
abbrev S1x256 : Shape := ⟨2, ![1, 256]⟩
abbrev S256x8 : Shape := ⟨2, ![256, 8]⟩
abbrev S256x1 : Shape := ⟨2, ![256, 1]⟩
abbrev S256x128 : Shape := ⟨2, ![256, 128]⟩
abbrev S8x256 : Shape := ⟨2, ![8, 256]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S4x256 : Shape := ⟨2, ![4, 256]⟩
abbrev S20000x5 : Shape := ⟨2, ![20000, 5]⟩

abbrev nBuf : Space → Nat
  | .hbm => 81
  | .vmem => 7
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S20000, .i32⟩
  | .hbm, ⟨3, _⟩ => ⟨S20000, .f32⟩
  | .hbm, ⟨4, _⟩ => ⟨S20000x1, .f32⟩
  | .hbm, ⟨5, _⟩ => ⟨S20000, .f32⟩
  | .hbm, ⟨6, _⟩ => ⟨S20000x1, .f32⟩
  | .hbm, ⟨7, _⟩ => ⟨S20000, .f32⟩
  | .hbm, ⟨8, _⟩ => ⟨S20000x1, .f32⟩
  | .hbm, ⟨9, _⟩ => ⟨S20000, .f32⟩
  | .hbm, ⟨10, _⟩ => ⟨S20000x1, .f32⟩
  | .hbm, ⟨11, _⟩ => ⟨S20000, .f32⟩
  | .hbm, ⟨12, _⟩ => ⟨S20000, .f32⟩
  | .hbm, ⟨13, _⟩ => ⟨S20000, .f32⟩
  | .hbm, ⟨14, _⟩ => ⟨S20000, .f32⟩
  | .hbm, ⟨15, _⟩ => ⟨S20000, .f32⟩
  | .hbm, ⟨16, _⟩ => ⟨S20000, .f32⟩
  | .hbm, ⟨17, _⟩ => ⟨S20000, .i32⟩
  | .hbm, ⟨18, _⟩ => ⟨S20000, .f32⟩
  | .hbm, ⟨19, _⟩ => ⟨S_, .f32⟩
  | .hbm, ⟨20, _⟩ => ⟨S20000, .f32⟩
  | .hbm, ⟨21, _⟩ => ⟨S20000, .i1⟩
  | .hbm, ⟨22, _⟩ => ⟨S20000, .f32⟩
  | .hbm, ⟨23, _⟩ => ⟨S_, .i32⟩
  | .hbm, ⟨24, _⟩ => ⟨S_, .f32⟩
  | .hbm, ⟨25, _⟩ => ⟨S20224, .f32⟩
  | .hbm, ⟨26, _⟩ => ⟨S_, .i32⟩
  | .hbm, ⟨27, _⟩ => ⟨S_, .f32⟩
  | .hbm, ⟨28, _⟩ => ⟨S20224, .f32⟩
  | .hbm, ⟨29, _⟩ => ⟨S_, .i32⟩
  | .hbm, ⟨30, _⟩ => ⟨S_, .f32⟩
  | .hbm, ⟨31, _⟩ => ⟨S20224, .f32⟩
  | .hbm, ⟨32, _⟩ => ⟨S_, .i32⟩
  | .hbm, ⟨33, _⟩ => ⟨S_, .f32⟩
  | .hbm, ⟨34, _⟩ => ⟨S20224, .f32⟩
  | .hbm, ⟨35, _⟩ => ⟨S_, .i32⟩
  | .hbm, ⟨36, _⟩ => ⟨S_, .f32⟩
  | .hbm, ⟨37, _⟩ => ⟨S20224, .f32⟩
  | .hbm, ⟨38, _⟩ => ⟨S20224x1, .f32⟩
  | .hbm, ⟨39, _⟩ => ⟨S20224x1, .f32⟩
  | .hbm, ⟨40, _⟩ => ⟨S20224x1, .f32⟩
  | .hbm, ⟨41, _⟩ => ⟨S20224x1, .f32⟩
  | .hbm, ⟨42, _⟩ => ⟨S20224x4, .f32⟩
  | .hbm, ⟨43, _⟩ => ⟨S20224x1, .f32⟩
  | .hbm, ⟨44, _⟩ => ⟨S_, .f32⟩
  | .hbm, ⟨45, _⟩ => ⟨S20224x3, .f32⟩
  | .hbm, ⟨46, _⟩ => ⟨S20224x8, .f32⟩
  | .hbm, ⟨47, _⟩ => ⟨S1x20224, .f32⟩
  | .hbm, ⟨48, _⟩ => ⟨S1x20224, .f32⟩
  | .hbm, ⟨49, _⟩ => ⟨S1x20224, .f32⟩
  | .hbm, ⟨50, _⟩ => ⟨S1x20224, .f32⟩
  | .hbm, ⟨51, _⟩ => ⟨S4x20224, .f32⟩
  | .hbm, ⟨52, _⟩ => ⟨S4x79x256, .f32⟩
  | .hbm, ⟨53, _⟩ => ⟨S1x79x256, .f32⟩
  | .hbm, ⟨54, _⟩ => ⟨S79x256, .f32⟩
  | .hbm, ⟨55, _⟩ => ⟨S1x79x256, .f32⟩
  | .hbm, ⟨56, _⟩ => ⟨S79x256, .f32⟩
  | .hbm, ⟨57, _⟩ => ⟨S1x79x256, .f32⟩
  | .hbm, ⟨58, _⟩ => ⟨S79x256, .f32⟩
  | .hbm, ⟨59, _⟩ => ⟨S1x79x256, .f32⟩
  | .hbm, ⟨60, _⟩ => ⟨S79x256, .f32⟩
  | .hbm, ⟨61, _⟩ => ⟨S79x256, .f32⟩
  | .hbm, ⟨62, _⟩ => ⟨S20224, .f32⟩
  | .hbm, ⟨63, _⟩ => ⟨S20000, .f32⟩
  | .hbm, ⟨64, _⟩ => ⟨S_, .f32⟩
  | .hbm, ⟨65, _⟩ => ⟨S20000, .f32⟩
  | .hbm, ⟨66, _⟩ => ⟨S_, .i32⟩
  | .hbm, ⟨67, _⟩ => ⟨S20000, .i32⟩
  | .hbm, ⟨68, _⟩ => ⟨S20000, .i1⟩
  | .hbm, ⟨69, _⟩ => ⟨S_, .i32⟩
  | .hbm, ⟨70, _⟩ => ⟨S20000, .i32⟩
  | .hbm, ⟨71, _⟩ => ⟨S20000, .i32⟩
  | .hbm, ⟨72, _⟩ => ⟨S20000, .i32⟩
  | .hbm, ⟨73, _⟩ => ⟨S20000x1, .i32⟩
  | .hbm, ⟨74, _⟩ => ⟨S20000, .f32⟩
  | .hbm, ⟨75, _⟩ => ⟨S20000x1, .f32⟩
  | .hbm, ⟨76, _⟩ => ⟨S20000x4, .f32⟩
  | .hbm, ⟨77, _⟩ => ⟨S20000x4, .f32⟩
  | .hbm, ⟨78, _⟩ => ⟨S20000, .f32⟩
  | .hbm, ⟨79, _⟩ => ⟨S20000x1, .f32⟩
  | .hbm, ⟨80, _⟩ => ⟨S20000x5, .f32⟩
  | .local _ .vmem, ⟨0, _⟩ => ⟨S20224x8, .f32⟩
  | .local _ .vmem, ⟨1, _⟩ => ⟨S79x256, .f32⟩
  | .local _ .vmem, ⟨2, _⟩ => ⟨S79x256, .f32⟩
  | .local _ .vmem, ⟨3, _⟩ => ⟨S79x256, .f32⟩
  | .local _ .vmem, ⟨4, _⟩ => ⟨S79x256, .f32⟩
  | .local _ .vmem, ⟨5, _⟩ => ⟨S79x256, .f32⟩
  | .local _ .vmem, ⟨6, _⟩ => ⟨S8x32384, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev main_v10_2 : Ref sig .tc := ⟨.hbm, 14, rfl⟩
abbrev main_v10_3 : Ref sig .tc := ⟨.hbm, 15, rfl⟩
abbrev main_v10_4 : Ref sig .tc := ⟨.hbm, 16, rfl⟩
abbrev main_v10_5 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_c_0 : Ref sig .tc := ⟨.hbm, 26, rfl⟩
abbrev main_call1_v0 : Ref sig .tc := ⟨.hbm, 27, rfl⟩
abbrev main_v16 : Ref sig .tc := ⟨.hbm, 28, rfl⟩
abbrev main_c_1 : Ref sig .tc := ⟨.hbm, 29, rfl⟩
abbrev main_call2_v0 : Ref sig .tc := ⟨.hbm, 30, rfl⟩
abbrev main_v17 : Ref sig .tc := ⟨.hbm, 31, rfl⟩
abbrev main_c_2 : Ref sig .tc := ⟨.hbm, 32, rfl⟩
abbrev main_call3_v0 : Ref sig .tc := ⟨.hbm, 33, rfl⟩
abbrev main_v18 : Ref sig .tc := ⟨.hbm, 34, rfl⟩
abbrev main_c_3 : Ref sig .tc := ⟨.hbm, 35, rfl⟩
abbrev main_call4_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_c_6 : Ref sig .tc := ⟨.hbm, 66, rfl⟩
abbrev main_v46 : Ref sig .tc := ⟨.hbm, 67, rfl⟩
abbrev main_v47 : Ref sig .tc := ⟨.hbm, 68, rfl⟩
abbrev main_c_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c79_i32 : BitVec 32 := 79#32
  let v17 : BitVec 32 := Scalar.addi c0_i32_1 c79_i32
  let c1_i32 : BitVec 32 := 1#32
  ⟨c0_i32_1, v17, c1_i32⟩
def k0_off1 (k0_t1 : Fin k0_t1_loop.trips) : Fin 2 → Nat :=
  let c0_i32_1 : BitVec 32 := 0#32
  let c1_i32 : BitVec 32 := 1#32
  let arg7 : BitVec 32 := Scf.iv c0_i32_1 c1_i32 k0_t1
  let v19 : Index := Scalar.indexCast arg7
  let c0_3 : Index := 0#32
  ![v19.toNat, 0]
def k0_off2 (k0_t1 : Fin k0_t1_loop.trips) : Fin 2 → Nat :=
  let c0_i32_1 : BitVec 32 := 0#32
  let c1_i32 : BitVec 32 := 1#32
  let arg7 : BitVec 32 := Scf.iv c0_i32_1 c1_i32 k0_t1
  let c256_i32 : BitVec 32 := 256#32
  let v34 : BitVec 32 := Scalar.muli arg7 c256_i32
  let v35 : Index := Scalar.indexCast v34
  let c0_7 : Index := 0#32
  ![v35.toNat, 0]
@[reducible] def k0_t2_loop (arg8 : BitVec 32) : Scf.Loop 32 :=
  let c0_i32_17 : BitVec 32 := 0#32
  let c512_i32 : BitVec 32 := 512#32
  let v56 : BitVec 32 := Scalar.addi arg8 c512_i32
  let c1_i32_8 : BitVec 32 := 1#32
  let v57 : BitVec 32 := Scalar.subi v56 c1_i32_8
  let c0_i32_10 : BitVec 32 := 0#32
  let v59 : BitVec 1 := Scalar.cmpi .sgt v57 c0_i32_10
  let v60 : BitVec 32 := Scalar.extui v59
  let c0_i32_11 : BitVec 32 := 0#32
  let v61 : BitVec 1 := Scalar.cmpi .slt v57 c0_i32_11
  let v62 : BitVec 32 := Scalar.extui v61
  let v63 : BitVec 32 := Scalar.subi v60 v62
  let c512_i32_9 : BitVec 32 := 512#32
  let c0_i32_12 : BitVec 32 := 0#32
  let v64 : BitVec 1 := Scalar.cmpi .sgt c512_i32_9 c0_i32_12
  let v65 : BitVec 32 := Scalar.extui v64
  let c0_i32_13 : BitVec 32 := 0#32
  let v66 : BitVec 1 := Scalar.cmpi .slt c512_i32_9 c0_i32_13
  let v67 : BitVec 32 := Scalar.extui v66
  let v68 : BitVec 32 := Scalar.subi v65 v67
  let v69 : BitVec 1 := Scalar.cmpi .ne v63 v68
  let v70 : BitVec 32 := Scalar.remsi v57 c512_i32_9
  let c0_i32_14 : BitVec 32 := 0#32
  let v71 : BitVec 1 := Scalar.cmpi .ne v70 c0_i32_14
  let v72 : BitVec 1 := Scalar.andi v69 v71
  let v58 : BitVec 32 := Scalar.divsi v57 c512_i32_9
  let c1_i32_15 : BitVec 32 := 1#32
  let v73 : BitVec 32 := Scalar.subi v58 c1_i32_15
  let v74 : BitVec 32 := Scalar.select v72 v73 v58
  let v76 : BitVec 32 := Scalar.subi v74 c0_i32_17
  let c1_i32_18 : BitVec 32 := 1#32
  let v78 : BitVec 32 := Scalar.divsi v76 c1_i32_18
  let v79 : BitVec 32 := Scalar.muli v78 c1_i32_18
  let v80 : BitVec 32 := Scalar.addi c0_i32_17 v79
  let c1_i32_19 : BitVec 32 := 1#32
  ⟨c0_i32_17, v80, c1_i32_19⟩

def k0_mult1 (arg8 : BitVec 32) (k0_t2 : Fin (k0_t2_loop arg8).trips) : BitVec 32 :=
  let c2_i32 : BitVec 32 := 2#32
  let c0_i32_17 : BitVec 32 := 0#32
  let c1_i32_19 : BitVec 32 := 1#32
  let arg9 : BitVec 32 := Scf.iv c0_i32_17 c1_i32_19 k0_t2
  let v162 : BitVec 32 := Scalar.muli c2_i32 arg9
  let c256_i32_42 : BitVec 32 := 256#32
  let v163 : BitVec 32 := Scalar.muli v162 c256_i32_42
  v163
def k0_off3 (arg8 : BitVec 32) (k0_t2 : Fin (k0_t2_loop arg8).trips) : Fin 2 → Nat :=
  let c0_43 : Index := 0#32
  let c2_i32 : BitVec 32 := 2#32
  let c0_i32_17 : BitVec 32 := 0#32
  let c1_i32_19 : BitVec 32 := 1#32
  let arg9 : BitVec 32 := Scf.iv c0_i32_17 c1_i32_19 k0_t2
  let v162 : BitVec 32 := Scalar.muli c2_i32 arg9
  let c256_i32_42 : BitVec 32 := 256#32
  let v163 : BitVec 32 := Scalar.muli v162 c256_i32_42
  let v164 : BitVec 32 := v163
  let v165 : Index := Scalar.indexCast v164
  ![0, v165.toNat]
def k0_mult2 (arg8 : BitVec 32) (k0_t2 : Fin (k0_t2_loop arg8).trips) : BitVec 32 :=
  let c2_i32_47 : BitVec 32 := 2#32
  let c0_i32_17 : BitVec 32 := 0#32
  let c1_i32_19 : BitVec 32 := 1#32
  let arg9 : BitVec 32 := Scf.iv c0_i32_17 c1_i32_19 k0_t2
  let v195 : BitVec 32 := Scalar.muli c2_i32_47 arg9
  let c1_i32_48 : BitVec 32 := 1#32
  let v196 : BitVec 32 := Scalar.addi v195 c1_i32_48
  let c256_i32_49 : BitVec 32 := 256#32
  let v197 : BitVec 32 := Scalar.muli v196 c256_i32_49
  v197
def k0_off4 (arg8 : BitVec 32) (k0_t2 : Fin (k0_t2_loop arg8).trips) : Fin 2 → Nat :=
  let c0_50 : Index := 0#32
  let c2_i32_47 : BitVec 32 := 2#32
  let c0_i32_17 : BitVec 32 := 0#32
  let c1_i32_19 : BitVec 32 := 1#32
  let arg9 : BitVec 32 := Scf.iv c0_i32_17 c1_i32_19 k0_t2
  let v195 : BitVec 32 := Scalar.muli c2_i32_47 arg9
  let c1_i32_48 : BitVec 32 := 1#32
  let v196 : BitVec 32 := Scalar.addi v195 c1_i32_48
  let c256_i32_49 : BitVec 32 := 256#32
  let v197 : BitVec 32 := Scalar.muli v196 c256_i32_49
  let v198 : BitVec 32 := v197
  let v199 : Index := Scalar.indexCast v198
  ![0, v199.toNat]
@[reducible] def k0_t3_loop (arg8 : BitVec 32) : Scf.Loop 32 :=
  let c0_i32_17 : BitVec 32 := 0#32
  let c512_i32 : BitVec 32 := 512#32
  let v56 : BitVec 32 := Scalar.addi arg8 c512_i32
  let c1_i32_8 : BitVec 32 := 1#32
  let v57 : BitVec 32 := Scalar.subi v56 c1_i32_8
  let c0_i32_10 : BitVec 32 := 0#32
  let v59 : BitVec 1 := Scalar.cmpi .sgt v57 c0_i32_10
  let v60 : BitVec 32 := Scalar.extui v59
  let c0_i32_11 : BitVec 32 := 0#32
  let v61 : BitVec 1 := Scalar.cmpi .slt v57 c0_i32_11
  let v62 : BitVec 32 := Scalar.extui v61
  let v63 : BitVec 32 := Scalar.subi v60 v62
  let c512_i32_9 : BitVec 32 := 512#32
  let c0_i32_12 : BitVec 32 := 0#32
  let v64 : BitVec 1 := Scalar.cmpi .sgt c512_i32_9 c0_i32_12
  let v65 : BitVec 32 := Scalar.extui v64
  let c0_i32_13 : BitVec 32 := 0#32
  let v66 : BitVec 1 := Scalar.cmpi .slt c512_i32_9 c0_i32_13
  let v67 : BitVec 32 := Scalar.extui v66
  let v68 : BitVec 32 := Scalar.subi v65 v67
  let v69 : BitVec 1 := Scalar.cmpi .ne v63 v68
  let v70 : BitVec 32 := Scalar.remsi v57 c512_i32_9
  let c0_i32_14 : BitVec 32 := 0#32
  let v71 : BitVec 1 := Scalar.cmpi .ne v70 c0_i32_14
  let v72 : BitVec 1 := Scalar.andi v69 v71
  let v58 : BitVec 32 := Scalar.divsi v57 c512_i32_9
  let c1_i32_15 : BitVec 32 := 1#32
  let v73 : BitVec 32 := Scalar.subi v58 c1_i32_15
  let v74 : BitVec 32 := Scalar.select v72 v73 v58
  let v76 : BitVec 32 := Scalar.subi v74 c0_i32_17
  let c1_i32_18 : BitVec 32 := 1#32
  let v78 : BitVec 32 := Scalar.divsi v76 c1_i32_18
  let v79 : BitVec 32 := Scalar.muli v78 c1_i32_18
  let v80 : BitVec 32 := Scalar.addi c0_i32_17 v79
  let v77 : BitVec 32 := Scalar.addi c0_i32_17 v76
  let c1_i32_20 : BitVec 32 := 1#32
  ⟨v80, v77, c1_i32_20⟩
def k0_mult3 (arg8 : BitVec 32) (k0_t3 : Fin (k0_t3_loop arg8).trips) : BitVec 32 :=
  let c2_i32 : BitVec 32 := 2#32
  let c0_i32_17 : BitVec 32 := 0#32
  let c512_i32 : BitVec 32 := 512#32
  let v56 : BitVec 32 := Scalar.addi arg8 c512_i32
  let c1_i32_8 : BitVec 32 := 1#32
  let v57 : BitVec 32 := Scalar.subi v56 c1_i32_8
  let c0_i32_10 : BitVec 32 := 0#32
  let v59 : BitVec 1 := Scalar.cmpi .sgt v57 c0_i32_10
  let v60 : BitVec 32 := Scalar.extui v59
  let c0_i32_11 : BitVec 32 := 0#32
  let v61 : BitVec 1 := Scalar.cmpi .slt v57 c0_i32_11
  let v62 : BitVec 32 := Scalar.extui v61
  let v63 : BitVec 32 := Scalar.subi v60 v62
  let c512_i32_9 : BitVec 32 := 512#32
  let c0_i32_12 : BitVec 32 := 0#32
  let v64 : BitVec 1 := Scalar.cmpi .sgt c512_i32_9 c0_i32_12
  let v65 : BitVec 32 := Scalar.extui v64
  let c0_i32_13 : BitVec 32 := 0#32
  let v66 : BitVec 1 := Scalar.cmpi .slt c512_i32_9 c0_i32_13
  let v67 : BitVec 32 := Scalar.extui v66
  let v68 : BitVec 32 := Scalar.subi v65 v67
  let v69 : BitVec 1 := Scalar.cmpi .ne v63 v68
  let v70 : BitVec 32 := Scalar.remsi v57 c512_i32_9
  let c0_i32_14 : BitVec 32 := 0#32
  let v71 : BitVec 1 := Scalar.cmpi .ne v70 c0_i32_14
  let v72 : BitVec 1 := Scalar.andi v69 v71
  let v58 : BitVec 32 := Scalar.divsi v57 c512_i32_9
  let c1_i32_15 : BitVec 32 := 1#32
  let v73 : BitVec 32 := Scalar.subi v58 c1_i32_15
  let v74 : BitVec 32 := Scalar.select v72 v73 v58
  let v76 : BitVec 32 := Scalar.subi v74 c0_i32_17
  let c1_i32_18 : BitVec 32 := 1#32
  let v78 : BitVec 32 := Scalar.divsi v76 c1_i32_18
  let v79 : BitVec 32 := Scalar.muli v78 c1_i32_18
  let v80 : BitVec 32 := Scalar.addi c0_i32_17 v79
  let c1_i32_20 : BitVec 32 := 1#32
  let arg9 : BitVec 32 := Scf.iv v80 c1_i32_20 k0_t3
  let v162 : BitVec 32 := Scalar.muli c2_i32 arg9
  let c256_i32_42 : BitVec 32 := 256#32
  let v163 : BitVec 32 := Scalar.muli v162 c256_i32_42
  v163
def k0_off5 (arg8 : BitVec 32) (k0_t3 : Fin (k0_t3_loop arg8).trips) : Fin 2 → Nat :=
  let c0_43 : Index := 0#32
  let c2_i32 : BitVec 32 := 2#32
  let c0_i32_17 : BitVec 32 := 0#32
  let c512_i32 : BitVec 32 := 512#32
  let v56 : BitVec 32 := Scalar.addi arg8 c512_i32
  let c1_i32_8 : BitVec 32 := 1#32
  let v57 : BitVec 32 := Scalar.subi v56 c1_i32_8
  let c0_i32_10 : BitVec 32 := 0#32
  let v59 : BitVec 1 := Scalar.cmpi .sgt v57 c0_i32_10
  let v60 : BitVec 32 := Scalar.extui v59
  let c0_i32_11 : BitVec 32 := 0#32
  let v61 : BitVec 1 := Scalar.cmpi .slt v57 c0_i32_11
  let v62 : BitVec 32 := Scalar.extui v61
  let v63 : BitVec 32 := Scalar.subi v60 v62
  let c512_i32_9 : BitVec 32 := 512#32
  let c0_i32_12 : BitVec 32 := 0#32
  let v64 : BitVec 1 := Scalar.cmpi .sgt c512_i32_9 c0_i32_12
  let v65 : BitVec 32 := Scalar.extui v64
  let c0_i32_13 : BitVec 32 := 0#32
  let v66 : BitVec 1 := Scalar.cmpi .slt c512_i32_9 c0_i32_13
  let v67 : BitVec 32 := Scalar.extui v66
  let v68 : BitVec 32 := Scalar.subi v65 v67
  let v69 : BitVec 1 := Scalar.cmpi .ne v63 v68
  let v70 : BitVec 32 := Scalar.remsi v57 c512_i32_9
  let c0_i32_14 : BitVec 32 := 0#32
  let v71 : BitVec 1 := Scalar.cmpi .ne v70 c0_i32_14
  let v72 : BitVec 1 := Scalar.andi v69 v71
  let v58 : BitVec 32 := Scalar.divsi v57 c512_i32_9
  let c1_i32_15 : BitVec 32 := 1#32
  let v73 : BitVec 32 := Scalar.subi v58 c1_i32_15
  let v74 : BitVec 32 := Scalar.select v72 v73 v58
  let v76 : BitVec 32 := Scalar.subi v74 c0_i32_17
  let c1_i32_18 : BitVec 32 := 1#32
  let v78 : BitVec 32 := Scalar.divsi v76 c1_i32_18
  let v79 : BitVec 32 := Scalar.muli v78 c1_i32_18
  let v80 : BitVec 32 := Scalar.addi c0_i32_17 v79
  let c1_i32_20 : BitVec 32 := 1#32
  let arg9 : BitVec 32 := Scf.iv v80 c1_i32_20 k0_t3
  let v162 : BitVec 32 := Scalar.muli c2_i32 arg9
  let c256_i32_42 : BitVec 32 := 256#32
  let v163 : BitVec 32 := Scalar.muli v162 c256_i32_42
  let v164 : BitVec 32 := v163
  let v165 : Index := Scalar.indexCast v164
  ![0, v165.toNat]
def k0_mult4 (arg8 : BitVec 32) (k0_t3 : Fin (k0_t3_loop arg8).trips) : BitVec 32 :=
  let c2_i32_47 : BitVec 32 := 2#32
  let c0_i32_17 : BitVec 32 := 0#32
  let c512_i32 : BitVec 32 := 512#32
  let v56 : BitVec 32 := Scalar.addi arg8 c512_i32
  let c1_i32_8 : BitVec 32 := 1#32
  let v57 : BitVec 32 := Scalar.subi v56 c1_i32_8
  let c0_i32_10 : BitVec 32 := 0#32
  let v59 : BitVec 1 := Scalar.cmpi .sgt v57 c0_i32_10
  let v60 : BitVec 32 := Scalar.extui v59
  let c0_i32_11 : BitVec 32 := 0#32
  let v61 : BitVec 1 := Scalar.cmpi .slt v57 c0_i32_11
  let v62 : BitVec 32 := Scalar.extui v61
  let v63 : BitVec 32 := Scalar.subi v60 v62
  let c512_i32_9 : BitVec 32 := 512#32
  let c0_i32_12 : BitVec 32 := 0#32
  let v64 : BitVec 1 := Scalar.cmpi .sgt c512_i32_9 c0_i32_12
  let v65 : BitVec 32 := Scalar.extui v64
  let c0_i32_13 : BitVec 32 := 0#32
  let v66 : BitVec 1 := Scalar.cmpi .slt c512_i32_9 c0_i32_13
  let v67 : BitVec 32 := Scalar.extui v66
  let v68 : BitVec 32 := Scalar.subi v65 v67
  let v69 : BitVec 1 := Scalar.cmpi .ne v63 v68
  let v70 : BitVec 32 := Scalar.remsi v57 c512_i32_9
  let c0_i32_14 : BitVec 32 := 0#32
  let v71 : BitVec 1 := Scalar.cmpi .ne v70 c0_i32_14
  let v72 : BitVec 1 := Scalar.andi v69 v71
  let v58 : BitVec 32 := Scalar.divsi v57 c512_i32_9
  let c1_i32_15 : BitVec 32 := 1#32
  let v73 : BitVec 32 := Scalar.subi v58 c1_i32_15
  let v74 : BitVec 32 := Scalar.select v72 v73 v58
  let v76 : BitVec 32 := Scalar.subi v74 c0_i32_17
  let c1_i32_18 : BitVec 32 := 1#32
  let v78 : BitVec 32 := Scalar.divsi v76 c1_i32_18
  let v79 : BitVec 32 := Scalar.muli v78 c1_i32_18
  let v80 : BitVec 32 := Scalar.addi c0_i32_17 v79
  let c1_i32_20 : BitVec 32 := 1#32
  let arg9 : BitVec 32 := Scf.iv v80 c1_i32_20 k0_t3
  let v195 : BitVec 32 := Scalar.muli c2_i32_47 arg9
  let c1_i32_48 : BitVec 32 := 1#32
  let v196 : BitVec 32 := Scalar.addi v195 c1_i32_48
  let c256_i32_49 : BitVec 32 := 256#32
  let v197 : BitVec 32 := Scalar.muli v196 c256_i32_49
  v197
def k0_off6 (arg8 : BitVec 32) (k0_t3 : Fin (k0_t3_loop arg8).trips) : Fin 2 → Nat :=
  let c0_50 : Index := 0#32
  let c2_i32_47 : BitVec 32 := 2#32
  let c0_i32_17 : BitVec 32 := 0#32
  let c512_i32 : BitVec 32 := 512#32
  let v56 : BitVec 32 := Scalar.addi arg8 c512_i32
  let c1_i32_8 : BitVec 32 := 1#32
  let v57 : BitVec 32 := Scalar.subi v56 c1_i32_8
  let c0_i32_10 : BitVec 32 := 0#32
  let v59 : BitVec 1 := Scalar.cmpi .sgt v57 c0_i32_10
  let v60 : BitVec 32 := Scalar.extui v59
  let c0_i32_11 : BitVec 32 := 0#32
  let v61 : BitVec 1 := Scalar.cmpi .slt v57 c0_i32_11
  let v62 : BitVec 32 := Scalar.extui v61
  let v63 : BitVec 32 := Scalar.subi v60 v62
  let c512_i32_9 : BitVec 32 := 512#32
  let c0_i32_12 : BitVec 32 := 0#32
  let v64 : BitVec 1 := Scalar.cmpi .sgt c512_i32_9 c0_i32_12
  let v65 : BitVec 32 := Scalar.extui v64
  let c0_i32_13 : BitVec 32 := 0#32
  let v66 : BitVec 1 := Scalar.cmpi .slt c512_i32_9 c0_i32_13
  let v67 : BitVec 32 := Scalar.extui v66
  let v68 : BitVec 32 := Scalar.subi v65 v67
  let v69 : BitVec 1 := Scalar.cmpi .ne v63 v68
  let v70 : BitVec 32 := Scalar.remsi v57 c512_i32_9
  let c0_i32_14 : BitVec 32 := 0#32
  let v71 : BitVec 1 := Scalar.cmpi .ne v70 c0_i32_14
  let v72 : BitVec 1 := Scalar.andi v69 v71
  let v58 : BitVec 32 := Scalar.divsi v57 c512_i32_9
  let c1_i32_15 : BitVec 32 := 1#32
  let v73 : BitVec 32 := Scalar.subi v58 c1_i32_15
  let v74 : BitVec 32 := Scalar.select v72 v73 v58
  let v76 : BitVec 32 := Scalar.subi v74 c0_i32_17
  let c1_i32_18 : BitVec 32 := 1#32
  let v78 : BitVec 32 := Scalar.divsi v76 c1_i32_18
  let v79 : BitVec 32 := Scalar.muli v78 c1_i32_18
  let v80 : BitVec 32 := Scalar.addi c0_i32_17 v79
  let c1_i32_20 : BitVec 32 := 1#32
  let arg9 : BitVec 32 := Scf.iv v80 c1_i32_20 k0_t3
  let v195 : BitVec 32 := Scalar.muli c2_i32_47 arg9
  let c1_i32_48 : BitVec 32 := 1#32
  let v196 : BitVec 32 := Scalar.addi v195 c1_i32_48
  let c256_i32_49 : BitVec 32 := 256#32
  let v197 : BitVec 32 := Scalar.muli v196 c256_i32_49
  let v198 : BitVec 32 := v197
  let v199 : Index := Scalar.indexCast v198
  ![0, v199.toNat]
def k0_mult5 (arg8 : BitVec 32) : BitVec 32 :=
  arg8
def k0_off7 (arg8 : BitVec 32) : Fin 2 → Nat :=
  let c0_31 : Index := 0#32
  let v129 : BitVec 32 := arg8
  let v130 : Index := Scalar.indexCast v129
  ![0, v130.toNat]

def k0_chk1 (arg8 : BitVec 32) : Prop :=
  ((k0_t2_loop arg8).OK) ∧
  (∀ k0_t2 : Fin (k0_t2_loop arg8).trips, 256 ∣ (k0_mult1 arg8 k0_t2).toNat) ∧
  (∀ k0_t2 : Fin (k0_t2_loop arg8).trips, ∀ a, (k0_off3 arg8 k0_t2) a + S8x256.size a ≤ S8x32384.size a) ∧
  (∀ k0_t2 : Fin (k0_t2_loop arg8).trips, 256 ∣ (k0_mult2 arg8 k0_t2).toNat) ∧
  (∀ k0_t2 : Fin (k0_t2_loop arg8).trips, ∀ a, (k0_off4 arg8 k0_t2) a + S8x256.size a ≤ S8x32384.size a) ∧
  ((k0_t3_loop arg8).OK) ∧
  (∀ k0_t3 : Fin (k0_t3_loop arg8).trips, 256 ∣ (k0_mult3 arg8 k0_t3).toNat) ∧
  (∀ k0_t3 : Fin (k0_t3_loop arg8).trips, ∀ a, (k0_off5 arg8 k0_t3) a + S8x256.size a ≤ S8x32384.size a) ∧
  (∀ k0_t3 : Fin (k0_t3_loop arg8).trips, 256 ∣ (k0_mult4 arg8 k0_t3).toNat) ∧
  (∀ k0_t3 : Fin (k0_t3_loop arg8).trips, ∀ a, (k0_off6 arg8 k0_t3) a + S8x256.size a ≤ S8x32384.size a) ∧
  (128 ∣ (k0_mult5 arg8).toNat) ∧
  (∀ a, (k0_off7 arg8) a + S4x256.size a ≤ S8x32384.size a)
theorem k0_t2_ok : ∀ (arg8 : BitVec 32) (k0_hw1 : k0_chk1 arg8), (k0_t2_loop arg8).OK := fun arg8 k0_hw1 => k0_hw1.1
theorem k0_mult1_dvd : ∀ (arg8 : BitVec 32) (k0_hw1 : k0_chk1 arg8) (k0_t2 : Fin (k0_t2_loop arg8).trips), 256 ∣ (k0_mult1 arg8 k0_t2).toNat := fun arg8 k0_hw1 k0_t2 => k0_hw1.2.1 k0_t2
theorem k0_off3_inb : ∀ (arg8 : BitVec 32) (k0_hw1 : k0_chk1 arg8) (k0_t2 : Fin (k0_t2_loop arg8).trips), ∀ a, (k0_off3 arg8 k0_t2) a + S8x256.size a ≤ S8x32384.size a := fun arg8 k0_hw1 k0_t2 => k0_hw1.2.2.1 k0_t2
theorem k0_mult2_dvd : ∀ (arg8 : BitVec 32) (k0_hw1 : k0_chk1 arg8) (k0_t2 : Fin (k0_t2_loop arg8).trips), 256 ∣ (k0_mult2 arg8 k0_t2).toNat := fun arg8 k0_hw1 k0_t2 => k0_hw1.2.2.2.1 k0_t2
theorem k0_off4_inb : ∀ (arg8 : BitVec 32) (k0_hw1 : k0_chk1 arg8) (k0_t2 : Fin (k0_t2_loop arg8).trips), ∀ a, (k0_off4 arg8 k0_t2) a + S8x256.size a ≤ S8x32384.size a := fun arg8 k0_hw1 k0_t2 => k0_hw1.2.2.2.2.1 k0_t2
theorem k0_t3_ok : ∀ (arg8 : BitVec 32) (k0_hw1 : k0_chk1 arg8), (k0_t3_loop arg8).OK := fun arg8 k0_hw1 => k0_hw1.2.2.2.2.2.1
theorem k0_mult3_dvd : ∀ (arg8 : BitVec 32) (k0_hw1 : k0_chk1 arg8) (k0_t3 : Fin (k0_t3_loop arg8).trips), 256 ∣ (k0_mult3 arg8 k0_t3).toNat := fun arg8 k0_hw1 k0_t3 => k0_hw1.2.2.2.2.2.2.1 k0_t3
theorem k0_off5_inb : ∀ (arg8 : BitVec 32) (k0_hw1 : k0_chk1 arg8) (k0_t3 : Fin (k0_t3_loop arg8).trips), ∀ a, (k0_off5 arg8 k0_t3) a + S8x256.size a ≤ S8x32384.size a := fun arg8 k0_hw1 k0_t3 => k0_hw1.2.2.2.2.2.2.2.1 k0_t3
theorem k0_mult4_dvd : ∀ (arg8 : BitVec 32) (k0_hw1 : k0_chk1 arg8) (k0_t3 : Fin (k0_t3_loop arg8).trips), 256 ∣ (k0_mult4 arg8 k0_t3).toNat := fun arg8 k0_hw1 k0_t3 => k0_hw1.2.2.2.2.2.2.2.2.1 k0_t3
theorem k0_off6_inb : ∀ (arg8 : BitVec 32) (k0_hw1 : k0_chk1 arg8) (k0_t3 : Fin (k0_t3_loop arg8).trips), ∀ a, (k0_off6 arg8 k0_t3) a + S8x256.size a ≤ S8x32384.size a := fun arg8 k0_hw1 k0_t3 => k0_hw1.2.2.2.2.2.2.2.2.2.1 k0_t3
theorem k0_mult5_dvd : ∀ (arg8 : BitVec 32) (k0_hw1 : k0_chk1 arg8), 128 ∣ (k0_mult5 arg8).toNat := fun arg8 k0_hw1 => k0_hw1.2.2.2.2.2.2.2.2.2.2.1
theorem k0_off7_inb : ∀ (arg8 : BitVec 32) (k0_hw1 : k0_chk1 arg8), ∀ a, (k0_off7 arg8) a + S4x256.size a ≤ S8x32384.size a := fun arg8 k0_hw1 => k0_hw1.2.2.2.2.2.2.2.2.2.2.2

def k0_off8 (k0_t1 : Fin k0_t1_loop.trips) : Fin 2 → Nat :=
  let c0_i32_1 : BitVec 32 := 0#32
  let c1_i32 : BitVec 32 := 1#32
  let arg7 : BitVec 32 := Scf.iv c0_i32_1 c1_i32 k0_t1
  let v135 : Index := Scalar.indexCast arg7
  let c0_33 : Index := 0#32
  ![v135.toNat, 0]
abbrev stage0_0 : Fin 1 → Memref sig .tc .vmem S20224x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S79x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S79x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S79x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S79x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S79x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S_ : Shape := ⟨0, ![]⟩
abbrev S20000x1 : Shape := ⟨2, ![20000, 1]⟩
abbrev S1 : Shape := ⟨1, ![1]⟩
abbrev S1x1 : Shape := ⟨2, ![1, 1]⟩
abbrev S1x4 : Shape := ⟨2, ![1, 4]⟩
abbrev S4 : Shape := ⟨1, ![4]⟩
abbrev S20000x5 : Shape := ⟨2, ![20000, 5]⟩

abbrev nBuf : Space → Nat
  | .hbm => 183
  | .vmem => 0
  | .smem => 0
  | _ => 0

abbrev hbmTy0_0 (i : Nat) : BufTy := match i % 128 with
  | 0 => ⟨S20000x4, .f32⟩
  | 1 => ⟨S20000, .f32⟩
  | 2 => ⟨S20000, .f32⟩
  | 3 => ⟨S20000, .i32⟩
  | 4 => ⟨S20000, .f32⟩
  | 5 => ⟨S20000, .i32⟩
  | 6 => ⟨S_, .i32⟩
  | 7 => ⟨S20000, .i32⟩
  | 8 => ⟨S20000, .i1⟩
  | 9 => ⟨S_, .i32⟩
  | 10 => ⟨S20000, .i32⟩
  | 11 => ⟨S20000, .i32⟩
  | 12 => ⟨S20000, .i32⟩
  | 13 => ⟨S20000x1, .i32⟩
  | 14 => ⟨S1, .i32⟩
  | 15 => ⟨S_, .i32⟩
  | 16 => ⟨S20000x1, .i32⟩
  | 17 => ⟨S20000x1, .i1⟩
  | 18 => ⟨S1x1, .i32⟩
  | 19 => ⟨S20000x1, .i32⟩
  | 20 => ⟨S20000x1, .i1⟩
  | 21 => ⟨S20000x1, .i1⟩
  | 22 => ⟨S_, .i1⟩
  | 23 => ⟨S20000, .i1⟩
  | 24 => ⟨S20000x4, .f32⟩
  | 25 => ⟨S20000x4, .i1⟩
  | 26 => ⟨S_, .f32⟩
  | 27 => ⟨S20000x4, .f32⟩
  | 28 => ⟨S20000x4, .f32⟩
  | 29 => ⟨S_, .i32⟩
  | 30 => ⟨S20000, .i32⟩
  | 31 => ⟨S20000, .i1⟩
  | 32 => ⟨S_, .i32⟩
  | 33 => ⟨S20000, .i32⟩
  | 34 => ⟨S20000, .i32⟩
  | 35 => ⟨S20000, .i32⟩
  | 36 => ⟨S20000x1, .i32⟩
  | 37 => ⟨S1, .i32⟩
  | 38 => ⟨S_, .i32⟩
  | 39 => ⟨S20000x1, .i32⟩
  | 40 => ⟨S20000x1, .i1⟩
  | 41 => ⟨S1x1, .i32⟩
  | 42 => ⟨S20000x1, .i32⟩
  | 43 => ⟨S20000x1, .i1⟩
  | 44 => ⟨S20000x1, .i1⟩
  | 45 => ⟨S_, .i1⟩
  | 46 => ⟨S20000, .i1⟩
  | 47 => ⟨S20000, .f32⟩
  | 48 => ⟨S_, .f32⟩
  | 49 => ⟨S20000, .f32⟩
  | 50 => ⟨S20000, .f32⟩
  | 51 => ⟨S20000x1, .f32⟩
  | 52 => ⟨S20000, .f32⟩
  | 53 => ⟨S20000x1, .f32⟩
  | 54 => ⟨S20000, .f32⟩
  | 55 => ⟨S20000, .f32⟩
  | 56 => ⟨S20000x1, .f32⟩
  | 57 => ⟨S20000, .f32⟩
  | 58 => ⟨S20000x1, .f32⟩
  | 59 => ⟨S20000, .f32⟩
  | 60 => ⟨S20000, .f32⟩
  | 61 => ⟨S20000, .f32⟩
  | 62 => ⟨S20000, .i32⟩
  | 63 => ⟨S_, .f32⟩
  | 64 => ⟨S20000, .f32⟩
  | 65 => ⟨S20000, .i1⟩
  | 66 => ⟨S_, .i32⟩
  | 67 => ⟨S_, .i32⟩
  | 68 => ⟨S20000x4, .f32⟩
  | 69 => ⟨S20000, .f32⟩
  | 70 => ⟨S20000, .i32⟩
  | 71 => ⟨S_, .i32⟩
  | 72 => ⟨S_, .i32⟩
  | 73 => ⟨S20000, .i1⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S1x4, .f32⟩
  | 93 => ⟨S4, .f32⟩
  | 94 => ⟨S1, .f32⟩
  | 95 => ⟨S_, .f32⟩
  | 96 => ⟨S20000x1, .f32⟩
  | 97 => ⟨S20000, .f32⟩
  | 98 => ⟨S20000, .f32⟩
  | 99 => ⟨S20000, .f32⟩
  | 100 => ⟨S1, .f32⟩
  | 101 => ⟨S_, .f32⟩
  | 102 => ⟨S20000x1, .f32⟩
  | 103 => ⟨S20000, .f32⟩
  | 104 => ⟨S20000, .f32⟩
  | 105 => ⟨S20000, .f32⟩
  | 106 => ⟨S1, .f32⟩
  | 107 => ⟨S_, .f32⟩
  | 108 => ⟨S20000x1, .f32⟩
  | 109 => ⟨S20000, .f32⟩
  | 110 => ⟨S20000, .f32⟩
  | 111 => ⟨S20000, .f32⟩
  | 112 => ⟨S1, .f32⟩
  | 113 => ⟨S_, .f32⟩
  | 114 => ⟨S20000x1, .f32⟩
  | 115 => ⟨S20000, .f32⟩
  | 116 => ⟨S20000, .f32⟩
  | 117 => ⟨S20000, .f32⟩
  | 118 => ⟨S20000, .f32⟩
  | 119 => ⟨S_, .f32⟩
  | 120 => ⟨S_, .f32⟩
  | 121 => ⟨S20000, .f32⟩
  | 122 => ⟨S20000, .f32⟩
  | 123 => ⟨S20000, .f32⟩
  | 124 => ⟨S_, .f32⟩
  | 125 => ⟨S_, .f32⟩
  | 126 => ⟨S20000, .f32⟩
  | 127 => ⟨S20000, .f32⟩
  | _ => ⟨S20000x4, .f32⟩

abbrev hbmTy0_1 (i : Nat) : BufTy := match i % 128 with
  | 0 => ⟨S20000, .f32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S1, .f32⟩
  | 8 => ⟨S_, .f32⟩
  | 9 => ⟨S20000, .f32⟩
  | 10 => ⟨S20000, .f32⟩
  | 11 => ⟨S20000, .f32⟩
  | 12 => ⟨S_, .f32⟩
  | 13 => ⟨S20000, .f32⟩
  | 14 => ⟨S20000, .f32⟩
  | 15 => ⟨S20000, .f32⟩
  | 16 => ⟨S_, .f32⟩
  | 17 => ⟨S20000, .f32⟩
  | 18 => ⟨S20000, .i1⟩
  | 19 => ⟨S_, .i32⟩
  | 20 => ⟨S20000, .i32⟩
  | 21 => ⟨S20000, .i1⟩
  | 22 => ⟨S20000, .i1⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S1, .i1⟩
  | 30 => ⟨S_, .i1⟩
  | 31 => ⟨S20000, .i1⟩
  | 32 => ⟨S20000, .i1⟩
  | 33 => ⟨S20000, .i1⟩
  | 34 => ⟨S20000, .i1⟩
  | 35 => ⟨S_, .i32⟩
  | 36 => ⟨S_, .i32⟩
  | 37 => ⟨S_, .i1⟩
  | 38 => ⟨S20000, .i1⟩
  | 39 => ⟨S_, .i32⟩
  | 40 => ⟨S20000, .i32⟩
  | 41 => ⟨S20000, .i1⟩
  | 42 => ⟨S_, .i32⟩
  | 43 => ⟨S20000, .i32⟩
  | 44 => ⟨S20000, .i32⟩
  | 45 => ⟨S20000, .i32⟩
  | 46 => ⟨S20000x1, .i32⟩
  | 47 => ⟨S20000, .i1⟩
  | 48 => ⟨S20000, .f32⟩
  | 49 => ⟨S20000x1, .f32⟩
  | 50 => ⟨S20000x4, .f32⟩
  | 51 => ⟨S20000x4, .f32⟩
  | 52 => ⟨S20000, .f32⟩
  | 53 => ⟨S20000x1, .f32⟩
  | 54 => ⟨S20000x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_v14 : Ref sig .tc := ⟨.hbm, 25, rfl⟩
abbrev main_call1_cst : Ref sig .tc := ⟨.hbm, 26, rfl⟩
abbrev main_call1_v15 : Ref sig .tc := ⟨.hbm, 27, rfl⟩
abbrev main_v2 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_cst : Ref sig .tc := ⟨.hbm, 63, rfl⟩
abbrev main_v16 : Ref sig .tc := ⟨.hbm, 64, rfl⟩
abbrev main_v17 : Ref sig .tc := ⟨.hbm, 65, rfl⟩
abbrev main_c : Ref sig .tc := ⟨.hbm, 66, rfl⟩
abbrev main_c_0 : Ref sig .tc := ⟨.hbm, 67, rfl⟩
abbrev main_v18_0 : Ref sig .tc := ⟨.hbm, 68, rfl⟩
abbrev main_v18_1 : Ref sig .tc := ⟨.hbm, 69, rfl⟩
abbrev main_v18_2 : Ref sig .tc := ⟨.hbm, 70, rfl⟩
abbrev main_v18_3 : Ref sig .tc := ⟨.hbm, 71, rfl⟩
abbrev main_v18_4 : Ref sig .tc := ⟨.hbm, 72, rfl⟩
abbrev main_v18_5 : Ref sig .tc := ⟨.hbm, 73, rfl⟩
abbrev main_while0c_c_9 : Ref sig .tc := ⟨.hbm, 74, rfl⟩
abbrev main_while0c_v34 : Ref sig .tc := ⟨.hbm, 75, rfl⟩
abbrev main_while0b_c_9 : Ref sig .tc := ⟨.hbm, 76, rfl⟩
abbrev main_while0b_v34 : Ref sig .tc := ⟨.hbm, 77, rfl⟩
abbrev main_while0b_v35 : Ref sig .tc := ⟨.hbm, 78, rfl⟩
abbrev main_while0b_c_10 : Ref sig .tc := ⟨.hbm, 79, rfl⟩
abbrev main_while0b_v36 : Ref sig .tc := ⟨.hbm, 80, rfl⟩
abbrev main_while0b_c_11 : Ref sig .tc := ⟨.hbm, 81, rfl⟩
abbrev main_while0b_v37 : Ref sig .tc := ⟨.hbm, 82, rfl⟩
abbrev main_while0b_v38 : Ref sig .tc := ⟨.hbm, 83, rfl⟩
abbrev main_while0b_c_12 : Ref sig .tc := ⟨.hbm, 84, rfl⟩
abbrev main_while0b_c_13 : Ref sig .tc := ⟨.hbm, 85, rfl⟩
abbrev main_while0b_v39 : Ref sig .tc := ⟨.hbm, 86, rfl⟩
abbrev main_while0b_c_14 : Ref sig .tc := ⟨.hbm, 87, rfl⟩
abbrev main_while0b_c_15 : Ref sig .tc := ⟨.hbm, 88, rfl⟩
abbrev main_while0b_v40 : Ref sig .tc := ⟨.hbm, 89, rfl⟩
abbrev main_while0b_c_16 : Ref sig .tc := ⟨.hbm, 90, rfl⟩
abbrev main_while0b_v41 : Ref sig .tc := ⟨.hbm, 91, rfl⟩
abbrev main_while0b_v42 : Ref sig .tc := ⟨.hbm, 92, rfl⟩
abbrev main_while0b_v43 : Ref sig .tc := ⟨.hbm, 93, rfl⟩
abbrev main_while0b_v44 : Ref sig .tc := ⟨.hbm, 94, rfl⟩
abbrev main_while0b_v45 : Ref sig .tc := ⟨.hbm, 95, rfl⟩
abbrev main_while0b_v46 : Ref sig .tc := ⟨.hbm, 96, rfl⟩
abbrev main_while0b_v47 : Ref sig .tc := ⟨.hbm, 97, rfl⟩
abbrev main_while0b_v48 : Ref sig .tc := ⟨.hbm, 98, rfl⟩
abbrev main_while0b_v49 : Ref sig .tc := ⟨.hbm, 99, rfl⟩
abbrev main_while0b_v50 : Ref sig .tc := ⟨.hbm, 100, rfl⟩
abbrev main_while0b_v51 : Ref sig .tc := ⟨.hbm, 101, rfl⟩
abbrev main_while0b_v52 : Ref sig .tc := ⟨.hbm, 102, rfl⟩
abbrev main_while0b_v53 : Ref sig .tc := ⟨.hbm, 103, rfl⟩
abbrev main_while0b_v54 : Ref sig .tc := ⟨.hbm, 104, rfl⟩
abbrev main_while0b_v55 : Ref sig .tc := ⟨.hbm, 105, rfl⟩
abbrev main_while0b_v56 : Ref sig .tc := ⟨.hbm, 106, rfl⟩
abbrev main_while0b_v57 : Ref sig .tc := ⟨.hbm, 107, rfl⟩
abbrev main_while0b_v58 : Ref sig .tc := ⟨.hbm, 108, rfl⟩
abbrev main_while0b_v59 : Ref sig .tc := ⟨.hbm, 109, rfl⟩
abbrev main_while0b_v60 : Ref sig .tc := ⟨.hbm, 110, rfl⟩
abbrev main_while0b_v61 : Ref sig .tc := ⟨.hbm, 111, rfl⟩
abbrev main_while0b_v62 : Ref sig .tc := ⟨.hbm, 112, rfl⟩
abbrev main_while0b_v63 : Ref sig .tc := ⟨.hbm, 113, rfl⟩
abbrev main_while0b_v64 : Ref sig .tc := ⟨.hbm, 114, rfl⟩
abbrev main_while0b_v65 : Ref sig .tc := ⟨.hbm, 115, rfl⟩
abbrev main_while0b_v66 : Ref sig .tc := ⟨.hbm, 116, rfl⟩
abbrev main_while0b_v67 : Ref sig .tc := ⟨.hbm, 117, rfl⟩
abbrev main_while0b_v68 : Ref sig .tc := ⟨.hbm, 118, rfl⟩
abbrev main_while0b_cst_17 : Ref sig .tc := ⟨.hbm, 119, rfl⟩
abbrev main_while0b_call3_v0 : Ref sig .tc := ⟨.hbm, 120, rfl⟩
abbrev main_while0b_call3_v1 : Ref sig .tc := ⟨.hbm, 121, rfl⟩
abbrev main_while0b_v69 : Ref sig .tc := ⟨.hbm, 122, rfl⟩
abbrev main_while0b_v70 : Ref sig .tc := ⟨.hbm, 123, rfl⟩
abbrev main_while0b_cst_18 : Ref sig .tc := ⟨.hbm, 124, rfl⟩
abbrev main_while0b_call4_v0 : Ref sig .tc := ⟨.hbm, 125, rfl⟩
abbrev main_while0b_call4_v1 : Ref sig .tc := ⟨.hbm, 126, rfl⟩
abbrev main_while0b_v71 : Ref sig .tc := ⟨.hbm, 127, rfl⟩
abbrev main_while0b_v72 : Ref sig .tc := ⟨.hbm, 128, rfl⟩
abbrev main_while0b_c_19 : Ref sig .tc := ⟨.hbm, 129, rfl⟩
abbrev main_while0b_v73 : Ref sig .tc := ⟨.hbm, 130, rfl⟩
abbrev main_while0b_v74 : Ref sig .tc := ⟨.hbm, 131, rfl⟩
abbrev main_while0b_c_20 : Ref sig .tc := ⟨.hbm, 132, rfl⟩
abbrev main_while0b_v75 : Ref sig .tc := ⟨.hbm, 133, rfl⟩
abbrev main_while0b_v76 : Ref sig .tc := ⟨.hbm, 134, rfl⟩
abbrev main_while0b_v77 : Ref sig .tc := ⟨.hbm, 135, rfl⟩
abbrev main_while0b_v78 : Ref sig .tc := ⟨.hbm, 136, rfl⟩
abbrev main_while0b_v79 : Ref sig .tc := ⟨.hbm, 137, rfl⟩
abbrev main_while0b_v80 : Ref sig .tc := ⟨.hbm, 138, rfl⟩
abbrev main_while0b_v81 : Ref sig .tc := ⟨.hbm, 139, rfl⟩
abbrev main_while0b_cst_21 : Ref sig .tc := ⟨.hbm, 140, rfl⟩
abbrev main_while0b_v82 : Ref sig .tc := ⟨.hbm, 141, rfl⟩
abbrev main_while0b_v83 : Ref sig .tc := ⟨.hbm, 142, rfl⟩
abbrev main_while0b_v84 : Ref sig .tc := ⟨.hbm, 143, rfl⟩
abbrev main_while0b_cst_22 : Ref sig .tc := ⟨.hbm, 144, rfl⟩
abbrev main_while0b_v85 : Ref sig .tc := ⟨.hbm, 145, rfl⟩
abbrev main_while0b_v86 : Ref sig .tc := ⟨.hbm, 146, rfl⟩
abbrev main_while0b_v87 : Ref sig .tc := ⟨.hbm, 147, rfl⟩
abbrev main_while0b_v88 : Ref sig .tc := ⟨.hbm, 148, rfl⟩
abbrev main_while0b_v89 : Ref sig .tc := ⟨.hbm, 149, rfl⟩
abbrev main_while0b_v90 : Ref sig .tc := ⟨.hbm, 150, rfl⟩
abbrev main_while0b_c_23 : Ref sig .tc := ⟨.hbm, 151, rfl⟩
abbrev main_while0b_v91 : Ref sig .tc := ⟨.hbm, 152, rfl⟩
abbrev main_while0b_v92 : Ref sig .tc := ⟨.hbm, 153, rfl⟩
abbrev main_while0b_c_24 : Ref sig .tc := ⟨.hbm, 154, rfl⟩
abbrev main_while0b_v93 : Ref sig .tc := ⟨.hbm, 155, rfl⟩
abbrev main_while0b_v94 : Ref sig .tc := ⟨.hbm, 156, rfl⟩
abbrev main_while0b_v95 : Ref sig .tc := ⟨.hbm, 157, rfl⟩
abbrev main_while0b_v96 : Ref sig .tc := ⟨.hbm, 158, rfl⟩
abbrev main_while0b_v97 : Ref sig .tc := ⟨.hbm, 159, rfl⟩
abbrev main_while0b_v98 : Ref sig .tc := ⟨.hbm, 160, rfl⟩
abbrev main_while0b_v99 : Ref sig .tc := ⟨.hbm, 161, rfl⟩
abbrev main_while0b_v100 : Ref sig .tc := ⟨.hbm, 162, rfl⟩
abbrev main_while0b_c_25 : Ref sig .tc := ⟨.hbm, 163, rfl⟩
abbrev main_while0b_v101 : Ref sig .tc := ⟨.hbm, 164, rfl⟩
abbrev main_c_1 : Ref sig .tc := ⟨.hbm, 165, rfl⟩
abbrev main_v19 : Ref sig .tc := ⟨.hbm, 166, rfl⟩
abbrev main_c_2 : Ref sig .tc := ⟨.hbm, 167, rfl⟩
abbrev main_v20 : Ref sig .tc := ⟨.hbm, 168, rfl⟩
abbrev main_v21 : Ref sig .tc := ⟨.hbm, 169, rfl⟩
abbrev main_c_3 : Ref sig .tc := ⟨.hbm, 170, rfl⟩
abbrev main_v22 : Ref sig .tc := ⟨.hbm, 171, rfl⟩
abbrev main_v23 : Ref sig .tc := ⟨.hbm, 172, rfl⟩
abbrev main_v24 : Ref sig .tc := ⟨.hbm, 173, rfl⟩
abbrev main_v25 : Ref sig .tc := ⟨.hbm, 174, rfl⟩
abbrev main_v26 : Ref sig .tc := ⟨.hbm, 175, rfl⟩
abbrev main_v27 : Ref sig .tc := ⟨.hbm, 176, rfl⟩
abbrev main_v28 : Ref sig .tc := ⟨.hbm, 177, rfl⟩
abbrev main_v29 : Ref sig .tc := ⟨.hbm, 178, rfl⟩
abbrev main_v30 : Ref sig .tc := ⟨.hbm, 179, rfl⟩
abbrev main_v31 : Ref sig .tc := ⟨.hbm, 180, rfl⟩
abbrev main_v32 : Ref sig .tc := ⟨.hbm, 181, rfl⟩
abbrev main_v33 : Ref sig .tc := ⟨.hbm, 182, rfl⟩

abbrev nD : Nat := 1
abbrev τ : Topo := Topo.v7x

variable {F : FTy → Type} [FloatOps F]

abbrev main_while0_count : Scf.Loop 32 := ⟨0#32, 20000#32, 1#32⟩
-- ==== Proof.Boxes.lean ====
/-
  Boxes over the extended reals, the ratio of overlap of two boxes, and the greedy rule: a box is kept when it is a
  candidate and no kept box before it overlaps it by more than the threshold.
-/
module

public import Idealize.ShloMosaic.Lib.Pointwise

@[expose] public section

noncomputable section

namespace Cert.Nms

open Idealize.ShloMosaic

/-- A box: its lower corner and its upper corner. -/
@[ext] structure Box where
  x1 : EReal
  y1 : EReal
  x2 : EReal
  y2 : EReal

/-- The four coordinates of a box in the order in which the rows hold them. -/
def Box.row (b : Box) (a : Fin 4) : EReal := ![b.x1, b.y1, b.x2, b.y2] a

/-- The constant one half, the threshold of the overlap. -/
def half : EReal := Ideal.ofBits .f32 0x3F000000#32
/-- The small constant that is added to the union's area. -/
def tiny : EReal := Ideal.ofBits .f32 0x3089705F#32

/-- The signed area of a box. -/
def Box.area (a : Box) : EReal := (a.x2 - a.x1) * (a.y2 - a.y1)

/-- The area of the overlap of two boxes. -/
def inter (a b : Box) : EReal :=
  max (min a.x2 b.x2 - max a.x1 b.x1) 0 * max (min a.y2 b.y2 - max a.y1 b.y1) 0

/-- The overlap of two boxes as a share of their union. -/
def iou (a b : Box) : EReal := Ideal.div (inter a b) (a.area + b.area - inter a b + tiny)

/-- Two boxes overlap by more than the threshold. -/
def Over (a b : Box) : Prop := half < iou a b

theorem inter_comm (a b : Box) : inter a b = inter b a := by
  simp only [inter, min_comm, max_comm]

theorem iou_comm (a b : Box) : iou a b = iou b a := by
  simp only [iou, inter_comm a b, add_comm a.area]

theorem over_comm (a b : Box) : Over a b ↔ Over b a := by
  simp only [Over, iou_comm a b]

theorem half_eq : half = ((1 / 2 : ℝ) : EReal) := by
  simp [half, Ideal.ofBits, Ideal.ieee, -EReal.coe_mul]; norm_num

theorem half_pos : 0 < half := by
  rw [half_eq]; exact_mod_cast (by norm_num : (0 : ℝ) < 1 / 2)

theorem half_lt_one : half < 1 := by
  rw [half_eq]; exact_mod_cast (by norm_num : (1 / 2 : ℝ) < 1)

/-- The box of zeros. -/
def Box.zero : Box := ⟨0, 0, 0, 0⟩

/-- Nothing overlaps the box of zeros by more than the threshold. -/
theorem not_over_zero (a : Box) : ¬ Over a Box.zero := by
  have h : inter a Box.zero = 0 := by
    have h1 : min a.x2 0 - max a.x1 0 ≤ 0 := by
      have : min a.x2 0 - max a.x1 0 ≤ 0 - 0 := EReal.sub_le_sub (min_le_right _ _) (le_max_right _ _)
      simpa using this
    simp only [inter, Box.zero, max_eq_right h1, zero_mul]
  unfold Over iou
  rw [h]
  unfold Ideal.div
  have := half_pos
  split_ifs
  all_goals simp_all [not_lt, le_of_lt]

/-- Candidates `k`, a relation `o later earlier`: whether the greedy rule keeps box `i`. -/
def keeps (k : ℕ → Prop) (o : ℕ → ℕ → Prop) (i : ℕ) : Prop :=
  k i ∧ ∀ j : Fin i, keeps k o j.1 → ¬ o i j.1
termination_by i
decreasing_by exact j.2

theorem keeps_iff (k : ℕ → Prop) (o : ℕ → ℕ → Prop) (i : ℕ) :
    keeps k o i ↔ k i ∧ ∀ j, j < i → keeps k o j → ¬ o i j := by
  rw [keeps]
  exact ⟨fun h => ⟨h.1, fun j hj => h.2 ⟨j, hj⟩⟩, fun h => ⟨h.1, fun j => h.2 j.1 j.2⟩⟩

/-- The greedy rule determines the kept boxes below any bound. -/
theorem keeps_unique (k : ℕ → Prop) (o : ℕ → ℕ → Prop) (K : ℕ → Prop) (n : ℕ)
    (h : ∀ i, i < n → (K i ↔ k i ∧ ∀ j, j < i → K j → ¬ o i j)) :
    ∀ i, i < n → (K i ↔ keeps k o i) := by
  intro i
  induction i using Nat.strong_induction_on with
  | _ i ih =>
    intro hi
    rw [h i hi, keeps_iff]
    refine and_congr_right fun _ => forall_congr' fun j => forall_congr' fun hj => ?_
    rw [ih j hj (hj.trans hi)]

end Cert.Nms

end
-- ==== Proof.HostLines.lean ====
/-
  The kernel program's host lines: what they write.
-/
module

public import proofs.«01_k».proof.Proof.Gen.KernelIdeal.Launch
public import Idealize.ShloMosaic.Lib.Pipeline.FrameSuffix
public import Idealize.ShloMosaic.Lib.Pipeline.Kit
public import Idealize.ShloMosaic.Lib.StableHlo.Run
public import proofs.«01_k».proof.Proof.Boxes

@[expose] public section

set_option maxRecDepth 16384

noncomputable section

namespace Cert.KernelIdeal.Nms

open Idealize.ShloMosaic Cert.KernelIdeal Cert.KernelIdeal.Gen

/-- The host lines before the kernel. -/
abbrev pre : List (List (HloOp τ sig (Elt Ideal))) :=
  [hostOps0, hostOps0_1, hostOps0_2, hostOps0_3, hostOps0_4, hostOps0_5, hostOps0_6, hostOps0_7, hostOps0_8, hostOps0_9, hostOps0_10]

/-- What the last host lines write. -/
abbrev tailW : List (Ref sig .tc) := [main_v43, main_v44, main_cst_5, main_v45, main_c_6, main_v46, main_v47, main_c_7, main_v48, main_v49, main_v50, main_v51,
  main_v52, main_v53, main_v54, main_v55, main_v56, main_v57, main_v58]
theorem tail_writes : (hostOps1 : List (HloOp τ sig (Elt Ideal))).Forall fun op => op.writes ⊆ (tailW.map (Proc.devRef (τ := τ) .tc)).toFinset :=
  StableHlo.forall_writes_sub_of_map rfl

theorem tail_sub : ∀ ops ∈ [(hostOps1 : List (HloOp τ sig (Elt Ideal)))], ∀ op ∈ ops, op.bufs ⊆ Pipeline.tailRefs sig Pipeline.Prefetch.none spec0 := by
  intro ops h op hop
  obtain rfl := List.mem_singleton.1 h
  rw [Pipeline.tailRefs_none _ (by decide)]
  exact Pipeline.sub_ucRefs _ ((List.forall_iff_forall_mem.mp hostOps1_sub) op hop)

theorem tail_fresh : ∀ ops ∈ [(hostOps1 : List (HloOp τ sig (Elt Ideal)))], ∀ op ∈ ops, op.fresh = ∅ := by
  intro ops h op hop
  obtain rfl := List.mem_singleton.1 h
  exact (List.forall_iff_forall_mem.mp (StableHlo.forall_fresh_of_map rfl)) op hop

theorem tail_keep : ∀ ops ∈ [(hostOps1 : List (HloOp τ sig (Elt Ideal)))], ∀ op ∈ ops, ∀ w, Proc.devRef .tc (Pipeline.arrRef spec0 w) ∉ op.writes := by
  intro ops h op hop w hb
  obtain rfl := List.mem_singleton.1 h
  obtain ⟨y, hy, he⟩ := List.mem_map.mp (List.mem_toFinset.mp ((List.forall_iff_forall_mem.mp tail_writes) op hop hb))
  exact (by decide +kernel : ∀ w, Pipeline.arrRef spec0 w ∉ tailW) w (Proc.devRef_injective _ he ▸ hy)

theorem pre_sub : pre.Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub,
    hostOps0_9_sub, hostOps0_10_sub⟩

theorem pre_fresh : pre.Forall fun ops => ops.Forall fun op => op.fresh = ∅ :=
  ⟨StableHlo.forall_fresh_of_map rfl, StableHlo.forall_fresh_of_map rfl, StableHlo.forall_fresh_of_map rfl, StableHlo.forall_fresh_of_map rfl,
    StableHlo.forall_fresh_of_map rfl, StableHlo.forall_fresh_of_map rfl, StableHlo.forall_fresh_of_map rfl, StableHlo.forall_fresh_of_map rfl,
    StableHlo.forall_fresh_of_map rfl, StableHlo.forall_fresh_of_map rfl, StableHlo.forall_fresh_of_map rfl⟩

end Cert.KernelIdeal.Nms

end
-- ==== Proof.Planes.lean ====
/-
  What the last host lines before the kernel write: the box rows and the four planes, from the padded sorted columns.
-/
module

public import proofs.«01_k».proof.Proof.HostLines
public import proofs.«01_k».proof.Proof.Boxes
public import Idealize.ShloMosaic.Lib.StableHlo.ReadAt
public import Idealize.ShloMosaic.Lib.Pointwise

@[expose] public section

set_option maxRecDepth 16384

noncomputable section

namespace Cert.KernelIdeal.Nms

open Idealize.ShloMosaic Cert.KernelIdeal Cert.KernelIdeal.Gen Cert.Nms

/-- The host lines between the sort and the kernel. -/
abbrev mid : List (HloOp τ sig (Elt Ideal)) :=
  hostOps0_1 ++ (hostOps0_2 ++ (hostOps0_3 ++ (hostOps0_4 ++ (hostOps0_5 ++ (hostOps0_6 ++ (hostOps0_7 ++ (hostOps0_8 ++ (hostOps0_9 ++ hostOps0_10))))))))

theorem pre_flatten : pre.flatten = hostOps0 ++ mid := rfl

variable (V : Valuation τ sig (Elt Ideal))

/-- The padding value. -/
theorem pad_zero : (FloatOps.sitofp FTy.f32 (0#32 : BitVec 32) : Ideal .f32) = (0 : EReal) := by
  show ((((0#32 : BitVec 32).toInt : ℝ)) : EReal) = 0
  simp

theorem rows_0 (i : Fin 20224) :
    (StableHlo.after mid V (Proc.devRef .tc main_v27) : S20224x8.Idx → EReal) (ix2 i 0)
      = if h : i.1 < 20000 then (V (Proc.devRef .tc main_v10_1) : S20000.Idx → EReal) (ix1 ⟨i.1, h⟩) else (0 : EReal) := by
  repeat after_reads_at
  exact dite_congr rfl (fun _ => rfl) fun _ => pad_zero

theorem rows_1 (i : Fin 20224) :
    (StableHlo.after mid V (Proc.devRef .tc main_v27) : S20224x8.Idx → EReal) (ix2 i 1)
      = if h : i.1 < 20000 then (V (Proc.devRef .tc main_v10_2) : S20000.Idx → EReal) (ix1 ⟨i.1, h⟩) else (0 : EReal) := by
  repeat after_reads_at
  exact dite_congr rfl (fun _ => rfl) fun _ => pad_zero

theorem rows_2 (i : Fin 20224) :
    (StableHlo.after mid V (Proc.devRef .tc main_v27) : S20224x8.Idx → EReal) (ix2 i 2)
      = if h : i.1 < 20000 then (V (Proc.devRef .tc main_v10_3) : S20000.Idx → EReal) (ix1 ⟨i.1, h⟩) else (0 : EReal) := by
  repeat after_reads_at
  exact dite_congr rfl (fun _ => rfl) fun _ => pad_zero

theorem rows_3 (i : Fin 20224) :
    (StableHlo.after mid V (Proc.devRef .tc main_v27) : S20224x8.Idx → EReal) (ix2 i 3)
      = if h : i.1 < 20000 then (V (Proc.devRef .tc main_v10_4) : S20000.Idx → EReal) (ix1 ⟨i.1, h⟩) else (0 : EReal) := by
  repeat after_reads_at
  exact dite_congr rfl (fun _ => rfl) fun _ => pad_zero

theorem rows_4 (hc : (V (Proc.devRef .tc main_c) : S_.Idx → BitVec 32) = constantI S_ 32 0#32) (i : Fin 20224) :
    (StableHlo.after mid V (Proc.devRef .tc main_v27) : S20224x8.Idx → EReal) (ix2 i 4)
      = if h : i.1 < 20000 then (V (Proc.devRef .tc main_v14) : S20000.Idx → EReal) (ix1 ⟨i.1, h⟩) else (0 : EReal) := by
  repeat after_reads_at
  exact dite_congr rfl (fun _ => rfl) fun _ => (congrArg (fun f : S_.Idx → BitVec 32 => (FloatOps.sitofp FTy.f32 (f _) : Ideal .f32)) hc).trans (pad_zero)

theorem plane_0 (t : Fin 79) (j : Fin 256) :
    (StableHlo.after mid V (Proc.devRef .tc main_v35) : S79x256.Idx → EReal) (ix2 t j)
      = if h : t.1 * 256 + j.1 < 20000 then (V (Proc.devRef .tc main_v10_1) : S20000.Idx → EReal) (ix1 ⟨t.1 * 256 + j.1, h⟩) else (0 : EReal) := by
  repeat after_reads_at
  exact dite_congr rfl (fun _ => rfl) fun _ => pad_zero

theorem plane_1 (t : Fin 79) (j : Fin 256) :
    (StableHlo.after mid V (Proc.devRef .tc main_v37) : S79x256.Idx → EReal) (ix2 t j)
      = if h : t.1 * 256 + j.1 < 20000 then (V (Proc.devRef .tc main_v10_2) : S20000.Idx → EReal) (ix1 ⟨t.1 * 256 + j.1, h⟩) else (0 : EReal) := by
  repeat after_reads_at
  exact dite_congr rfl (fun _ => rfl) fun _ => pad_zero

theorem plane_2 (t : Fin 79) (j : Fin 256) :
    (StableHlo.after mid V (Proc.devRef .tc main_v39) : S79x256.Idx → EReal) (ix2 t j)
      = if h : t.1 * 256 + j.1 < 20000 then (V (Proc.devRef .tc main_v10_3) : S20000.Idx → EReal) (ix1 ⟨t.1 * 256 + j.1, h⟩) else (0 : EReal) := by
  repeat after_reads_at
  exact dite_congr rfl (fun _ => rfl) fun _ => pad_zero

theorem plane_3 (t : Fin 79) (j : Fin 256) :
    (StableHlo.after mid V (Proc.devRef .tc main_v41) : S79x256.Idx → EReal) (ix2 t j)
      = if h : t.1 * 256 + j.1 < 20000 then (V (Proc.devRef .tc main_v10_4) : S20000.Idx → EReal) (ix1 ⟨t.1 * 256 + j.1, h⟩) else (0 : EReal) := by
  repeat after_reads_at
  exact dite_congr rfl (fun _ => rfl) fun _ => pad_zero

end Cert.KernelIdeal.Nms

end
-- ==== Proof.Indicator.lean ====
/-
  Zero-one values over the extended reals: products, sums and differences of them, and their counts as words.
-/
module

public import proofs.«01_k».proof.Proof.Boxes

@[expose] public section

noncomputable section

namespace Cert.Nms

open Idealize.ShloMosaic
open scoped Classical

/-- One where a proposition holds, and zero where it does not. -/
def ind (p : Prop) : EReal := if p then 1 else 0

theorem ind_true {p : Prop} (h : p) : ind p = 1 := if_pos h
theorem ind_false {p : Prop} (h : ¬ p) : ind p = 0 := if_neg h

theorem ind_congr {p q : Prop} (h : p ↔ q) : ind p = ind q := by rw [propext h]

theorem half_lt_ind (p : Prop) : half < ind p ↔ p := by
  by_cases h : p
  · simp [ind, h, half_lt_one]
  · simp [ind, h, half_pos.le]

theorem ind_mul (p q : Prop) : ind p * ind q = ind (p ∧ q) := by
  by_cases h : p <;> by_cases g : q <;> simp [ind, h, g]

theorem ind_eq_coe (p : Prop) : ind p = (((if p then 1 else 0 : ℕ) : ℝ) : EReal) := by
  by_cases h : p <;> simp [ind, h]

theorem sum_ind {α : Type} [Fintype α] (p : α → Prop) : ∑ x, ind (p x) = (((Finset.univ.filter p).card : ℝ) : EReal) := by
  simp only [ind_eq_coe]
  rw [Finset.card_filter, Nat.cast_sum]
  exact (map_sum (⟨⟨Real.toEReal, EReal.coe_zero⟩, EReal.coe_add⟩ : ℝ →+ EReal) _ _).symm

theorem ind_sub (p q : Prop) : ind p - ind q = ((((if p then 1 else 0 : ℕ) : ℝ) - ((if q then 1 else 0 : ℕ) : ℝ) : ℝ) : EReal) := by
  rw [ind_eq_coe, ind_eq_coe, EReal.coe_sub]

theorem abs_ind_sub (p q : Prop) : max (ind p - ind q) (-(ind p - ind q)) = ind (¬ (p ↔ q)) := by
  rw [ind_sub, ← EReal.coe_neg, ind_eq_coe]
  rw [← EReal.coe_strictMono.monotone.map_max]
  congr 1
  by_cases h : p <;> by_cases g : q <;> simp [h, g]

theorem half_lt_nat (n : ℕ) : half < ((n : ℝ) : EReal) ↔ 0 < n := by
  rw [half_eq, EReal.coe_lt_coe_iff]
  constructor
  · intro h
    by_contra hn
    have : n = 0 := by omega
    subst this
    norm_num at h
  · intro h
    have : (1 : ℝ) ≤ n := by exact_mod_cast h
    linarith

theorem half_lt_sum_ind {α : Type} [Fintype α] (p : α → Prop) : half < ∑ x, ind (p x) ↔ ∃ x, p x := by
  rw [sum_ind, half_lt_nat, Finset.card_pos]
  simp [Finset.filter_nonempty_iff]

theorem zero_lt_sum_ind {α : Type} [Fintype α] (p : α → Prop) : 0 < ∑ x, ind (p x) ↔ ∃ x, p x := by
  rw [sum_ind, ← half_lt_sum_ind, sum_ind, half_lt_nat]
  norm_cast

/-- A widened bit read as a signed number. -/
theorem sitofp_ofBool (p : Prop) [Decidable p] :
    FloatOps.sitofp (F := Ideal) .f32 (BitVec.setWidth 32 (BitVec.ofBool (decide p))) = ind p := by
  show (((BitVec.setWidth 32 (BitVec.ofBool (decide p))).toInt : ℝ) : EReal) = ind p
  by_cases h : p <;> simp [ind, h]

theorem toInt_small (c : Fin 256) : (BitVec.ofNat 32 c.1).toInt = (c.1 : ℤ) := by
  have h := c.2
  rw [BitVec.toInt_eq_toNat_of_lt] <;> simp <;> omega

theorem cmpi_sgt_nat (r c : Fin 256) : IntOp.cmpi CmpIPredicate.sgt (BitVec.ofNat 32 r.1) (BitVec.ofNat 32 c.1) = BitVec.ofBool (decide (c < r)) := by
  simp only [IntOp.cmpi, BitVec.slt_eq_decide, toInt_small, Nat.cast_lt, Fin.lt_def]
theorem cmpi_sge_nat (r c : Fin 256) : IntOp.cmpi CmpIPredicate.sge (BitVec.ofNat 32 r.1) (BitVec.ofNat 32 c.1) = BitVec.ofBool (decide (c ≤ r)) := by
  simp only [IntOp.cmpi, BitVec.sle_eq_decide, toInt_small, Nat.cast_le, Fin.le_def]
theorem cmpi_eq_nat (r c : Fin 256) : IntOp.cmpi CmpIPredicate.eq (BitVec.ofNat 32 r.1) (BitVec.ofNat 32 c.1) = BitVec.ofBool (decide (r = c)) := by
  simp only [IntOp.cmpi]
  congr 1
  rw [Bool.eq_iff_iff]
  simp only [beq_iff_eq, decide_eq_true_eq]
  constructor
  · intro h
    have := congrArg BitVec.toInt h
    rw [toInt_small, toInt_small] at this
    exact Fin.ext (by exact_mod_cast this)
  · rintro rfl; rfl

theorem sitofp_nat (c : Fin 256) : FloatOps.sitofp (F := Ideal) .f32 (BitVec.ofNat 32 c.1) = ((c.1 : ℝ) : EReal) := by
  show (((BitVec.ofNat 32 c.1).toInt : ℝ) : EReal) = _
  rw [toInt_small]; simp

/-- A small natural number truncates to its own word. -/
theorem fptosi_nat (n : ℕ) (h : n ≤ 256) : Ideal.fptosi 32 ((n : ℝ) : EReal) = BitVec.ofNat 32 n := by
  rw [Ideal.fptosi, Ideal.toIntClamped_coe, if_pos (Nat.cast_nonneg n), Int.floor_natCast]
  rw [min_eq_right (by norm_num; omega), max_eq_right (by norm_num)]
  exact BitVec.ofInt_natCast 32 n

/-- How many of the elements before `x` have the property. -/
def rank (P : Fin 256 → Prop) (x : Fin 256) : ℕ := (Finset.univ.filter fun y => y < x ∧ P y).card

/-- The sum over the elements up to `x`, without `x` itself. -/
theorem sum_le_sub (P : Fin 256 → Prop) (x : Fin 256) :
    ∑ y, ind (y ≤ x) * ind (P y) - ind (P x) = ((rank P x : ℝ) : EReal) := by
  simp only [ind_mul]
  rw [sum_ind, ind_eq_coe, ← EReal.coe_sub]
  congr 1
  have hs : (Finset.univ.filter fun y => y ≤ x ∧ P y) = (Finset.univ.filter fun y => y < x ∧ P y) ∪ (Finset.univ.filter fun y => y = x ∧ P y) := by
    ext y; simp only [Finset.mem_filter, Finset.mem_univ, true_and, Finset.mem_union, le_iff_lt_or_eq]; tauto
  have h2 : (Finset.univ.filter fun y => y = x ∧ P y).card = if P x then 1 else 0 := by
    split_ifs with h
    · rw [Finset.card_eq_one]; exact ⟨x, by ext y; simp; rintro rfl; exact h⟩
    · rw [Finset.card_eq_zero]; ext y; simp; rintro rfl; exact h
  have hd : Disjoint (Finset.univ.filter fun y => y < x ∧ P y) (Finset.univ.filter fun y => y = x ∧ P y) := by
    rw [Finset.disjoint_left]; intro y; simp only [Finset.mem_filter, Finset.mem_univ, true_and]
    rintro ⟨h, -⟩ ⟨rfl, -⟩; exact lt_irrefl _ h
  have hc : (Finset.univ.filter fun y => y ≤ x ∧ P y).card = rank P x + if P x then 1 else 0 := by
    rw [hs, Finset.card_union_of_disjoint hd, rank, h2]
  have hc' : (((Finset.univ.filter fun y => y ≤ x ∧ P y).card : ℕ) : ℝ) = rank P x + ((if P x then 1 else 0 : ℕ) : ℝ) := by
    rw [hc]; push_cast; ring
  refine Eq.trans ?_ (sub_eq_of_eq_add hc')
  congr!

theorem rank_lt (P : Fin 256 → Prop) (x y : Fin 256) (hx : P x) (h : x < y) : rank P x < rank P y := by
  apply Finset.card_lt_card
  rw [Finset.ssubset_iff_of_subset]
  · exact ⟨x, by simp [h, hx], by simp⟩
  · intro z; simp only [Finset.mem_filter, Finset.mem_univ, true_and]; exact fun hz => ⟨hz.1.trans h, hz.2⟩

theorem rank_inj (P : Fin 256 → Prop) (x y : Fin 256) (hx : P x) (hy : P y) (h : rank P x = rank P y) : x = y := by
  rcases lt_trichotomy x y with g | g | g
  · have := rank_lt P x y hx g; omega
  · exact g
  · have := rank_lt P y x hy g; omega

/-- How many elements have the property. -/
def total (P : Fin 256 → Prop) : ℕ := (Finset.univ.filter P).card

theorem total_le (P : Fin 256 → Prop) : total P ≤ 256 := (Finset.card_filter_le _ _).trans (by simp)

theorem rank_lt_total (P : Fin 256 → Prop) (x : Fin 256) (hx : P x) : rank P x < total P := by
  apply Finset.card_lt_card
  rw [Finset.ssubset_iff_of_subset]
  · exact ⟨x, by simp [hx], by simp⟩
  · intro z; simp only [Finset.mem_filter, Finset.mem_univ, true_and]; exact fun hz => hz.2

/-- The one-hot sum picks the value of the element of the given rank. -/
theorem pick (P : Fin 256 → Prop) (X : Fin 256 → EReal) (x : Fin 256) (hx : P x) :
    ∑ y, X y * ind (rank P y = rank P x ∧ P y) = X x := by
  rw [Finset.sum_eq_single x]
  · rw [ind_true ⟨rfl, hx⟩, mul_one]
  · intro y _ hy
    rw [ind_false (fun h => hy (rank_inj P y x h.2 hx h.1)), mul_zero]
  · simp

/-- The one-hot sum is zero where no element has the given rank. -/
theorem pick_none (P : Fin 256 → Prop) (X : Fin 256 → EReal) (c : ℕ) (h : ∀ y, P y → rank P y ≠ c) :
    ∑ y, X y * ind (rank P y = c ∧ P y) = 0 := by
  apply Finset.sum_eq_zero
  intro y _
  rw [ind_false (fun g => h y g.2 g.1), mul_zero]

end Cert.Nms

end
-- ==== Proof.Order.lean ====
/-
  The order of the boxes by descending score, and the greedy rule's answer in the boxes' own numbering.
-/
module

public import proofs.«01_k».proof.ReferenceIdeal
public import proofs.«01_k».proof.KernelIdeal
public import proofs.«01_k».proof.Proof.Boxes
public import proofs.«01_k».proof.Proof.Indicator
public import Idealize.ShloMosaic.Lib.SortFacts

@[expose] public section

set_option maxRecDepth 16384

noncomputable section

namespace Cert.Nms

open Idealize.ShloMosaic
open Cert.KernelIdeal (S20000 S20000x4)

/-- The score whose box stands before another's in the order: the comparison of the negated scores. -/
def before (x y : EReal) : BitVec 1 := Cert.ReferenceIdeal.comparator_f32_i32_d0 (F := Ideal) (-x, 0#32) (-y, 0#32)

variable (b : S20000x4.Idx → EReal) (s : S20000.Idx → EReal)

/-- The box at each place of the order. -/
def place : Fin 20000 → Fin 20000 := sortedFrom fun k k' => before (s (ix1 k)) (s (ix1 k')) == 1#1

theorem place_injective : Function.Injective (place s) := sortedFrom_injective _
theorem place_surjective : Function.Surjective (place s) := sortedFrom_surjective _

theorem ofFin_eq (k : Fin 20000) : (Shape.Idx.ofFin k : S20000.Idx) = ix1 k := by
  rw [Shape.Idx.eq_ofFin (ix1 k : S20000.Idx)]; rfl

/-- A sort of rows of rank one reads its operand through the order of the rows. -/
theorem sortBy_line {n : ℕ} {ι α : Type} (cmp : ι → ι → BitVec 1) (rows : (⟨1, ![n]⟩ : Shape).Idx → ι) (x : (⟨1, ![n]⟩ : Shape).Idx → α) (j : (⟨1, ![n]⟩ : Shape).Idx) :
    Host.sortBy ⟨1, ![n]⟩ 0 cmp rows x j
      = x (Shape.Idx.ofFin (sortedFrom (fun k k' => cmp (rows (Shape.Idx.ofFin k)) (rows (Shape.Idx.ofFin k')) == 1#1) (j 0))) := by
  unfold Host.sortBy
  simp

/-- The kernel's sort of six operands reads each of them through the order. -/
theorem sorted_at (rows : S20000.Idx → EReal × EReal × EReal × EReal × EReal × BitVec 32) (hr : ∀ k, (rows k).1 = -s k) {α : Type} (x : S20000.Idx → α) (i : Fin 20000) :
    Host.sortBy S20000 0 (Cert.KernelIdeal.comparator_f32_f32_f32_f32_f32_i32_d0 (F := Ideal)) rows x (ix1 i) = x (ix1 (place s i)) := by
  refine (sortBy_line (n := 20000) _ rows x (ix1 i)).trans ?_
  rw [ofFin_eq]
  refine congrArg (fun k => x (ix1 k)) (congrArg (fun f => sortedFrom f i) (funext fun k => funext fun k' => ?_))
  have h : ∀ l r, Cert.KernelIdeal.comparator_f32_f32_f32_f32_f32_i32_d0 (F := Ideal) l r = Cert.ReferenceIdeal.comparator_f32_i32_d0 (F := Ideal) (l.1, 0#32) (r.1, 0#32) := fun _ _ => rfl
  rw [h, hr, hr, ofFin_eq, ofFin_eq]; rfl

/-- The reference's argument sort gives the order. -/
theorem order_at (x : S20000.Idx → EReal) (hx : ∀ k, x k = -s k) (i : Fin 20000) :
    (Host.sort2 S20000 0 (Cert.ReferenceIdeal.comparator_f32_i32_d0 (F := Ideal)) x (iotaInDim S20000 32 0)).2 (ix1 i) = BitVec.ofNat 32 (place s i).1 := by
  generalize hy : (iotaInDim S20000 32 0 : S20000.Idx → BitVec 32) = y
  have hi : ∀ k, y (ix1 k) = BitVec.ofNat 32 k.1 := fun k => hy ▸ rfl
  refine (congrFun (congrArg Prod.snd (Host.sort2_eq_sortBy S20000 0 (Cert.ReferenceIdeal.comparator_f32_i32_d0 (F := Ideal)) x y)) (ix1 i)).trans ?_
  refine (sortBy_line (n := 20000) _ (fun j => (x j, y j)) y (ix1 i)).trans ?_
  rw [ofFin_eq, hi]
  have h : ∀ l r, Cert.ReferenceIdeal.comparator_f32_i32_d0 (F := Ideal) l r = Cert.ReferenceIdeal.comparator_f32_i32_d0 (F := Ideal) (l.1, 0#32) (r.1, 0#32) := fun _ _ => rfl
  refine congrArg (fun k : Fin 20000 => BitVec.ofNat 32 k.1) (congrArg (fun f => sortedFrom f i) (funext fun k => funext fun k' => ?_))
  rw [h, ofFin_eq, ofFin_eq]
  exact congrArg₂ (fun a a' : EReal => Cert.ReferenceIdeal.comparator_f32_i32_d0 (F := Ideal) (a, 0#32) (a', 0#32) == 1#1) (hx _) (hx _)

/-- The score above which a box is a candidate. -/
def floor : EReal := Ideal.ofBits .f32 0x3D4CCCCD#32

/-- Box `p` of the argument. -/
def boxAt (p : Fin 20000) : Box := ⟨b (ix2 p 0), b (ix2 p 1), b (ix2 p 2), b (ix2 p 3)⟩
/-- The box at place `i` is a candidate. -/
def candAt (i : ℕ) : Prop := ∃ h : i < 20000, floor < s (ix1 (place s ⟨i, h⟩))
/-- The boxes at places `i` and `j` overlap. -/
def overAt (i j : ℕ) : Prop := ∃ (hi : i < 20000) (hj : j < 20000), Over (boxAt b (place s ⟨i, hi⟩)) (boxAt b (place s ⟨j, hj⟩))
/-- The greedy rule keeps the box at place `i`. -/
def keptAt (i : ℕ) : Prop := keeps (candAt s) (overAt b s) i

/-- The place of box `p` in the order. -/
def placeOf (p : Fin 20000) : Fin 20000 := (place_surjective s p).choose
theorem place_placeOf (p : Fin 20000) : place s (placeOf s p) = p := (place_surjective s p).choose_spec

open scoped Classical in
/-- The result: the boxes' coordinates and scores, those of the boxes that are not kept multiplied by zero. -/
def result (p : Fin 20000) (k : Fin 5) : EReal :=
  if h : k.1 < 4 then b (ix2 p ⟨k.1, h⟩) * ind (keptAt b s (placeOf s p).1) else s (ix1 p) * ind (keptAt b s (placeOf s p).1)

end Cert.Nms

end
-- ==== Proof.TileValues.lean ====
/-
  What the payloads of one tile hold, element by element, over the extended reals.
-/
module

public import proofs.«01_k».proof.Proof.Indicator
public import proofs.«01_k».proof.Proof.Gen.KernelIdeal.Skeleton

@[expose] public section

set_option maxRecDepth 16384

noncomputable section

namespace Cert.KernelIdeal.Nms

open scoped Classical
open Idealize.ShloMosaic Cert.KernelIdeal Cert.KernelIdeal.Gen Cert.Nms

/-- The box in a row of the block of eight columns. -/
def rowBox (v : Vec Ideal S256x8 .f32) (r : Fin 256) : Box := ⟨v (ix2 r 0), v (ix2 r 1), v (ix2 r 2), v (ix2 r 3)⟩
/-- The box in a column of four planes' rows. -/
def colBox (x1 y1 x2 y2 : Vec Ideal S1x256 .f32) (c : Fin 256) : Box := ⟨x1 (ix2 0 c), y1 (ix2 0 c), x2 (ix2 0 c), y2 (ix2 0 c)⟩
/-- The box in a column of a block of the kept boxes. -/
def bufBox (v : Vec Ideal S8x256 .f32) (c : Fin 256) : Box := ⟨v (ix2 0 c), v (ix2 1 c), v (ix2 2 c), v (ix2 3 c)⟩

theorem pay8_at (v36 : Vec Ideal S256x8 .f32) (v : Vec Ideal S8x256 .f32) (r c : Fin 256) :
    k0_pay8 (k0_pay35 v36) (k0_pay36 v36) (k0_pay37 v36) (k0_pay38 v36) (k0_pay39 v36) v (ix2 r c) = iou (rowBox v36 r) (bufBox v c) := by
  pointwise [k0_pay8, k0_pay35, k0_pay36, k0_pay37, k0_pay38, k0_pay39, k0_pay30, k0_pay31, k0_pay32, k0_pay33, k0_pay29]
  rfl

theorem pay41_at (v36 : Vec Ideal S256x8 .f32) (acc : FVec Ideal S256x128 .f32) (m : FVec Ideal S256x256 .f32) (v : Vec Ideal S8x256 .f32) (r : Fin 256) (c : Fin 128) :
    k0_pay41 (k0_pay36 v36) (k0_pay37 v36) (k0_pay38 v36) (k0_pay39 v36) acc m (k0_pay11 v) (k0_pay12 v) (k0_pay13 v)
      (k0_pay14 (k0_pay35 v36) v) (k0_pay15 v) (ix2 r c)
      = max (acc (ix2 r c)) (max (max (m (ix2 r ⟨c.1, by omega⟩)) (iou (rowBox v36 r) (bufBox v ⟨c.1, by omega⟩)))
          (max (m (ix2 r ⟨128 + c.1, by omega⟩)) (iou (rowBox v36 r) (bufBox v ⟨128 + c.1, by omega⟩)))) := by
  pointwise [k0_pay41, k0_pay9, k0_pay10, k0_pay11, k0_pay12, k0_pay13, k0_pay14, k0_pay15, k0_pay35, k0_pay36, k0_pay37, k0_pay38, k0_pay39, k0_pay30, k0_pay31, k0_pay32, k0_pay33, k0_pay29]
  rfl

/-- After a trip of the loop over the kept boxes an entry is above the threshold where it was before, where the first
    block's ratio is, or where one of the second block's two boxes overlaps. -/
theorem pay41_over (v36 : Vec Ideal S256x8 .f32) (acc : FVec Ideal S256x128 .f32) (u v : Vec Ideal S8x256 .f32) (r : Fin 256) (c : Fin 128) :
    half < k0_pay41 (k0_pay36 v36) (k0_pay37 v36) (k0_pay38 v36) (k0_pay39 v36) acc
      (k0_pay8 (k0_pay35 v36) (k0_pay36 v36) (k0_pay37 v36) (k0_pay38 v36) (k0_pay39 v36) u) (k0_pay11 v) (k0_pay12 v) (k0_pay13 v)
      (k0_pay14 (k0_pay35 v36) v) (k0_pay15 v) (ix2 r c)
      ↔ half < acc (ix2 r c)
        ∨ (Over (rowBox v36 r) (bufBox u ⟨c.1, by omega⟩) ∨ Over (rowBox v36 r) (bufBox v ⟨c.1, by omega⟩))
        ∨ (Over (rowBox v36 r) (bufBox u ⟨128 + c.1, by omega⟩) ∨ Over (rowBox v36 r) (bufBox v ⟨128 + c.1, by omega⟩)) := by
  rw [pay41_at, pay8_at, pay8_at]
  simp only [lt_max_iff, Over]

theorem pay40_at (r : Fin 256) (c : Fin 128) : ¬ half < k0_pay40 (F := Ideal) (ix2 r c) := by
  pointwise [k0_pay40]
  exact not_lt.2 half_pos.le

theorem fold_max_lt {α : Type} [DecidableEq α] (b : EReal) (hb : ¬ half < b) (f : α → EReal) (s : Finset α) :
    half < Finset.fold max b f s ↔ ∃ x ∈ s, half < f x := by
  induction s using Finset.induction_on with
  | empty => simp [hb]
  | insert a s ha ih => rw [Finset.fold_insert ha, lt_max_iff, ih]; simp

theorem bot_word : Ideal.ofBits .f32 0xFF800000#32 = ⊥ := by
  simp [Ideal.ofBits, Ideal.ieee]

/-- The candidates of a tile after the test against the kept boxes. -/
theorem pay43_at (k : FVec Ideal S256x1 .f32) (acc : FVec Ideal S256x128 .f32) (r : Fin 256) (c : Fin 1) :
    k0_pay43 k acc (ix2 r c) = if ∃ x, half < acc (ix2 r x) then 0 else k (ix2 r c) := by
  pointwise [k0_pay43]
  have h := fold_max_lt (Ideal.ofBits .f32 0xFF800000#32) (by rw [bot_word]; simp) (fun x => acc (ix2 r x)) Finset.univ
  simp only [Finset.mem_univ, true_and, half] at h
  exact if_congr h rfl rfl

/-- The tile's mask: an earlier box of the tile that overlaps. -/
theorem pay45_at (v36 : Vec Ideal S256x8 .f32) (x1 y1 x2 y2 : Vec Ideal S1x256 .f32) (r c : Fin 256) :
    k0_pay45 (k0_pay2 (F := Ideal)) (k0_pay44 (k0_pay24 x1) (k0_pay25 y1) (k0_pay26 x2) (k0_pay27 y2) (k0_pay28 x1 y1 x2 y2)
      (k0_pay35 v36) (k0_pay36 v36) (k0_pay37 v36) (k0_pay38 v36) (k0_pay39 v36)) (Scalar.ofBits .f32 0x3F000000#32) (ix2 r c)
      = ind (Over (rowBox v36 r) (colBox x1 y1 x2 y2 c) ∧ c < r) := by
  pointwise [k0_pay45, k0_pay2, k0_pay44, k0_pay24, k0_pay25, k0_pay26, k0_pay27, k0_pay28, k0_pay35, k0_pay36, k0_pay37, k0_pay38, k0_pay39, k0_pay30, k0_pay31, k0_pay32, k0_pay33, k0_pay29]
  rw [cmpi_sgt_nat, sitofp_ofBool, sitofp_ofBool, ind_mul]
  rfl

/-- A column of zero-one values that holds a property. -/
def Holds (K : FVec Ideal S256x1 .f32) (P : Fin 256 → Prop) : Prop := ∀ r, K (ix2 r 0) = ind (P r)

theorem holds_unique {K : FVec Ideal S256x1 .f32} {P Q : Fin 256 → Prop} (h : Holds K P) (g : Holds K Q) (r : Fin 256) : P r ↔ Q r := by
  rw [← half_lt_ind (P r), ← half_lt_ind (Q r), ← h, ← g]

/-- The tile's rule applied once: a candidate stays when no marked earlier box overlaps it. -/
def next (o : Fin 256 → Fin 256 → Prop) (k P : Fin 256 → Prop) (r : Fin 256) : Prop := k r ∧ ¬ ∃ c, (o r c ∧ c < r) ∧ P c

theorem pay6_at (M : FVec Ideal S256x256 .f32) (k0 K : FVec Ideal S256x1 .f32) (o : Fin 256 → Fin 256 → Prop) (k P : Fin 256 → Prop)
    (hM : ∀ r c, M (ix2 r c) = ind (o r c ∧ c < r)) (hk : Holds k0 k) (hP : Holds K P) :
    Holds (k0_pay6 M k0 K) (next o k P) := by
  intro r
  pointwise [k0_pay6]
  have h : ∑ x, M (ix2 r x) * K (ix2 x 0) = ∑ x, ind ((o r x ∧ x < r) ∧ P x) :=
    Finset.sum_congr rfl fun x _ => by rw [hM, hP, ind_mul]
  rw [h]
  have g := half_lt_sum_ind fun x => (o r x ∧ x < r) ∧ P x
  unfold half at g
  rw [if_congr g rfl rfl, hk]
  unfold next ind
  by_cases a : k r <;> by_cases b : ∃ x, (o r x ∧ x < r) ∧ P x <;> simp [a, b]

theorem pay7_at (M : FVec Ideal S256x256 .f32) (k0 K : FVec Ideal S256x1 .f32) (P Q : Fin 256 → Prop)
    (hQ : Holds (k0_pay6 M k0 K) Q) (hP : Holds K P) :
    Scalar.cmpf (F := Ideal) (φ := .f32) .ogt (k0_pay7 M k0 K) (Scalar.ofBits .f32 0x00000000#32) = BitVec.ofBool (decide (∃ x, ¬ (Q x ↔ P x))) := by
  have h : k0_pay7 M k0 K = ∑ x, ind (¬ (Q x ↔ P x)) := by
    pointwise [k0_pay7]
    refine Finset.sum_congr rfl fun x _ => ?_
    rw [Finset.sum_const, hQ, hP]
    simp only [Finset.card_univ, Fintype.card_fin, one_smul]
    exact abs_ind_sub _ _
  rw [h]
  pointwise
  simp only [zero_lt_sum_ind]

theorem pay48_at (K : FVec Ideal S256x1 .f32) (P : Fin 256 → Prop) (hP : Holds K P) :
    Scalar.fptosi (F := Ideal) (φ := .f32) 32 (k0_pay48 K) = BitVec.ofNat 32 (total P) := by
  have h : k0_pay48 K = ((total P : ℝ) : EReal) := by
    pointwise [k0_pay48]
    rw [total, ← sum_ind]
    refine Finset.sum_congr rfl fun x _ => ?_
    rw [Finset.sum_const, hP]
    simp only [Finset.card_univ, Fintype.card_fin, one_smul]
  rw [h, Ideal.scalar_fptosi_def, fptosi_nat _ (total_le P)]

theorem pay47_at (K : FVec Ideal S256x1 .f32) (P : Fin 256 → Prop) (hP : Holds K P) (c : Fin 256) :
    k0_pay47 k0_pay4 K (ix2 0 c) = ind (P c) := by
  pointwise [k0_pay47, k0_pay4]
  rw [Finset.sum_eq_single c]
  · rw [cmpi_eq_nat, sitofp_ofBool, hP, ind_mul]; exact ind_congr (by simp)
  · intro x _ hx
    rw [cmpi_eq_nat, sitofp_ofBool, ind_false hx, mul_zero]
  · simp

theorem pay46_sum (K : FVec Ideal S256x1 .f32) (P : Fin 256 → Prop) (hP : Holds K P) (x1 y1 x2 y2 : Vec Ideal S1x256 .f32) (a : Fin 4) (c : Fin 256) :
    k0_pay46 k0_pay3 k0_pay5 (k0_pay24 x1) (k0_pay25 y1) (k0_pay26 x2) (k0_pay27 y2) K (ix2 a c)
      = ∑ x, (colBox x1 y1 x2 y2 x).row a * ind (rank P x = c.1 ∧ P x) := by
  pointwise [k0_pay46, k0_pay3, k0_pay5, k0_pay24, k0_pay25, k0_pay26, k0_pay27]
  refine Finset.sum_congr rfl fun x _ => ?_
  congr 1
  · fin_vals a with ha
    · obtain rfl : a = 0 := Fin.ext ha
      simp [Box.row, colBox]
    · obtain rfl : a = 1 := Fin.ext ha
      simp [Box.row, colBox]
    · obtain rfl : a = 2 := Fin.ext ha
      simp [Box.row, colBox]
    · obtain rfl : a = 3 := Fin.ext ha
      simp [Box.row, colBox]
  · have hr : ∑ y, FloatOps.sitofp (F := Ideal) .f32 (BitVec.setWidth 32 (IntOp.cmpi CmpIPredicate.sge (BitVec.ofNat 32 x.1) (BitVec.ofNat 32 y.1))) * K (ix2 y 0)
        - K (ix2 x 0) = ((rank P x : ℝ) : EReal) := by
      rw [← sum_le_sub, hP]
      congr 1
      refine Finset.sum_congr rfl fun y _ => ?_
      rw [cmpi_sge_nat, sitofp_ofBool, hP]
    have hb : IntOp.andi (BitVec.ofBool (decide ((rank P x : ℝ) = ((c.1 : ℝ))))) (BitVec.ofBool (decide (P x)))
        = BitVec.ofBool (decide (rank P x = c.1 ∧ P x)) := by
      by_cases h1 : rank P x = c.1 <;> by_cases h2 : P x <;> simp [h1, h2, IntOp.andi]
    have hh := half_lt_ind (P x)
    unfold half at hh
    have hd : BitVec.ofBool (decide (Ideal.ofBits .f32 0x3F000000#32 < K (ix2 x 0))) = BitVec.ofBool (decide (P x)) := by
      rw [hP]; exact congrArg _ (decide_eq_decide.2 hh)
    rw [← sitofp_ofBool, ← hb]
    simp only [hr, sitofp_nat, EReal.coe_eq_coe_iff]
    refine congrArg (FloatOps.sitofp (F := Ideal) .f32) (congrArg (BitVec.setWidth 32) (congrArg (IntOp.andi _) ?_))
    exact hd

/-- A kept box of the tile lies in the column of its rank. -/
theorem pay46_kept (K : FVec Ideal S256x1 .f32) (P : Fin 256 → Prop) (hP : Holds K P) (x1 y1 x2 y2 : Vec Ideal S1x256 .f32) (a : Fin 4) (c x : Fin 256)
    (hx : P x) (hc : rank P x = c.1) :
    k0_pay46 k0_pay3 k0_pay5 (k0_pay24 x1) (k0_pay25 y1) (k0_pay26 x2) (k0_pay27 y2) K (ix2 a c) = (colBox x1 y1 x2 y2 x).row a := by
  rw [pay46_sum K P hP, ← hc]
  exact pick P (fun y => (colBox x1 y1 x2 y2 y).row a) x hx

/-- A column that is no kept box's rank is zero. -/
theorem pay46_rest (K : FVec Ideal S256x1 .f32) (P : Fin 256 → Prop) (hP : Holds K P) (x1 y1 x2 y2 : Vec Ideal S1x256 .f32) (a : Fin 4) (c : Fin 256)
    (hc : ∀ x, P x → rank P x ≠ c.1) :
    k0_pay46 k0_pay3 k0_pay5 (k0_pay24 x1) (k0_pay25 y1) (k0_pay26 x2) (k0_pay27 y2) K (ix2 a c) = 0 := by
  rw [pay46_sum K P hP]
  exact pick_none P (fun y => (colBox x1 y1 x2 y2 y).row a) c.1 hc

end Cert.KernelIdeal.Nms

end
-- ==== Proof.Fixpoint.lean ====
/-
  One tile's rule repeated until nothing changes ends at the marks the greedy order gives the tile: each repetition
  settles one more row, and a repetition that changes nothing has settled them all.
-/
module

public import proofs.«01_k».proof.Proof.TileValues

@[expose] public section

noncomputable section

namespace Cert.KernelIdeal.Nms

open scoped Classical
open Idealize.ShloMosaic Cert.KernelIdeal Cert.KernelIdeal.Gen Cert.Nms

/-- The tile's marks in the greedy order: a candidate is kept when no kept earlier box of the tile overlaps it. -/
def settled (o : Fin 256 → Fin 256 → Prop) (k : Fin 256 → Prop) (r : Fin 256) : Prop :=
  keeps (fun i => ∃ h : i < 256, k ⟨i, h⟩) (fun i j => ∃ (h : i < 256) (g : j < 256), o ⟨i, h⟩ ⟨j, g⟩) r.1

theorem settled_iff (o : Fin 256 → Fin 256 → Prop) (k : Fin 256 → Prop) (r : Fin 256) :
    settled o k r ↔ next o k (settled o k) r := by
  unfold settled next
  rw [keeps_iff]
  constructor
  · rintro ⟨⟨_, hk⟩, h⟩
    exact ⟨hk, fun ⟨c, ⟨ho, hc⟩, hs⟩ => h c.1 hc hs ⟨r.2, c.2, ho⟩⟩
  · rintro ⟨hk, h⟩
    exact ⟨⟨r.2, hk⟩, fun j hj hs ⟨_, g, ho⟩ => h ⟨⟨j, g⟩, ⟨ho, hj⟩, hs⟩⟩

/-- The rows below `m` carry their final marks. -/
def Upto (o : Fin 256 → Fin 256 → Prop) (k : Fin 256 → Prop) (m : ℕ) (P : Fin 256 → Prop) : Prop :=
  ∀ r : Fin 256, r.1 < m → (P r ↔ settled o k r)

theorem upto_zero (o : Fin 256 → Fin 256 → Prop) (k P : Fin 256 → Prop) : Upto o k 0 P := fun _ h => absurd h (by omega)

/-- A repetition settles one more row. -/
theorem upto_next {o : Fin 256 → Fin 256 → Prop} {k : Fin 256 → Prop} {m : ℕ} {P : Fin 256 → Prop} (h : Upto o k m P) :
    Upto o k (m + 1) (next o k P) := by
  intro r hr
  rw [settled_iff]
  unfold next
  refine and_congr_right fun _ => not_congr (exists_congr fun c => and_congr_right fun hc => h c ?_)
  have := Fin.lt_def.1 hc.2
  omega

theorem upto_all {o : Fin 256 → Fin 256 → Prop} {k P : Fin 256 → Prop} (h : Upto o k 256 P) : P = settled o k :=
  funext fun r => propext (h r r.2)

/-- Marks a repetition does not change are the final ones. -/
theorem settled_of_fixed {o : Fin 256 → Fin 256 → Prop} {k P : Fin 256 → Prop} (h : next o k P = P) : P = settled o k := by
  have : ∀ m, Upto o k m P := by
    intro m
    induction m with
    | zero => exact upto_zero o k P
    | succ m ih => have := upto_next ih; rwa [h] at this
  exact upto_all (this 256)

/-- What the repetition holds with `v` rounds allowed: either it goes on, and some number of rows is settled that the
    allowed rounds complete, or it has stopped at the final marks. -/
def Round (o : Fin 256 → Fin 256 → Prop) (k : Fin 256 → Prop) (v : ℕ) (K : FVec Ideal S256x1 .f32) (b : BitVec 1) : Prop :=
  (b ≠ 1#1 ∧ Holds K (settled o k)) ∨ (b = 1#1 ∧ ∃ P m, Holds K P ∧ Upto o k m P ∧ m ≤ 256 ∧ m + v = 257)

theorem round_zero {o : Fin 256 → Fin 256 → Prop} {k : Fin 256 → Prop} {K : FVec Ideal S256x1 .f32} {b : BitVec 1}
    (h : Round o k 0 K b) : b ≠ 1#1 := by
  rcases h with h | ⟨_, _, m, _, _, h1, h2⟩
  · exact h.1
  · omega

theorem round_start (o : Fin 256 → Fin 256 → Prop) (k : Fin 256 → Prop) (K : FVec Ideal S256x1 .f32) (P : Fin 256 → Prop)
    (hP : Holds K P) : Round o k 257 K 1#1 :=
  .inr ⟨rfl, P, 0, hP, upto_zero o k P, by omega, by omega⟩

/-- One round of the repetition. -/
theorem round_succ {o : Fin 256 → Fin 256 → Prop} {k : Fin 256 → Prop} {M : FVec Ideal S256x256 .f32} {k0 K : FVec Ideal S256x1 .f32}
    (hM : ∀ r c, M (ix2 r c) = ind (o r c ∧ c < r)) (hk : Holds k0 k) {v : ℕ} (h : Round o k (v + 1) K 1#1) :
    Round o k v (k0_pay6 M k0 K) (Scalar.cmpf (F := Ideal) (φ := .f32) .ogt (k0_pay7 M k0 K) (Scalar.ofBits .f32 0x00000000#32)) := by
  rcases h with h | ⟨_, P, m, hP, hu, h1, h2⟩
  · exact absurd rfl h.1
  have hQ := pay6_at M k0 K o k P hM hk hP
  rw [pay7_at M k0 K P _ hQ hP]
  by_cases hx : ∃ x, ¬ (next o k P x ↔ P x)
  · refine .inr ⟨by simp [hx], next o k P, m + 1, hQ, upto_next hu, ?_, by omega⟩
    by_contra hm
    obtain rfl : m = 256 := by omega
    obtain rfl := upto_all hu
    obtain ⟨x, hx⟩ := hx
    exact hx (settled_iff o k x).symm
  · refine .inl ⟨by simp [hx], ?_⟩
    have e : next o k P = P := funext fun x => propext (not_not.1 (not_exists.1 hx x))
    rw [← settled_of_fixed e, ← e]
    exact e.symm ▸ hQ

end Cert.KernelIdeal.Nms

end
-- ==== Proof.While.lean ====
/-
  The kernel's repeated rule as a called label: it ends, and it returns the tile's final marks.
-/
module

public import proofs.«01_k».proof.Proof.Fixpoint
public import proofs.«01_k».proof.Proof.Gen.KernelIdeal.Loops
public import proofs.«01_k».proof.Proof.Gen.KernelIdeal

@[expose] public section

noncomputable section

namespace Cert.KernelIdeal.Nms

open scoped Classical
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Nms

local notation "𝕄" => MT nD τ sig Unit (Elt Ideal) ℕ (UR sig nD τ) ℕ

/-- The label is entered at the number of rounds still allowed. -/
abbrev 𝒱₀ : Variants := Variants.nat

/-- What a call of the label gives back: the final marks, and any flag. -/
def marks (o : Fin 256 → Fin 256 → Prop) (k : Fin 256 → Prop) : sWPT 𝕄 (FVec Ideal S256x1 .f32 × BitVec 1) := do
  let r ← sWPT.arbitrary
  sWPT.assume (Holds r.1 (settled o k))
  pure r

theorem marks_apply (o : Fin 256 → Fin 256 → Prop) (k : Fin 256 → Prop) (Q : FVec Ideal S256x1 .f32 × BitVec 1 → sProp 𝕄) :
    marks o k Q = iprop(∀ r : FVec Ideal S256x1 .f32 × BitVec 1, ⌜Holds r.1 (settled o k)⌝ -∗ Q r) := rfl

/-- The label entered with `v` rounds allowed gives the final marks. -/
theorem marks_le (c : Dev nD) (E : Set ℕ) (t : Fin k0_t1_loop.trips) (n : BitVec 32) (hn : k0_chk1 n)
    {o : Fin 256 → Fin 256 → Prop} {k : Fin 256 → Prop} {M : FVec Ideal S256x256 .f32} {k0 : FVec Ideal S256x1 .f32}
    (hM : ∀ r c, M (ix2 r c) = ind (o r c ∧ c < r)) (hk : Holds k0 k) :
    ∀ (v : ℕ) (K : FVec Ideal S256x1 .f32) (b : BitVec 1), Round o k v K b → ∀ Q, marks o k Q
      ⊢ wp frame (wpE (defs₀ (F := Ideal)) 𝒱₀ (c : Thread nD τ) (some v)) E (defs₀ (F := Ideal) .tc 1 ⟨t, n, hn, M, k0, K, b⟩) Q := by
  intro v
  induction v with
  | zero =>
    intro K b hr Q
    rw [marks_apply]
    show _ ⊢ wp frame (wpE (defs₀ (F := Ideal)) 𝒱₀ (c : Thread nD τ) (some 0)) E (cc0_while1 t n hn M k0 K b) Q
    simp only [cc0_while1_eq_skeleton]; unfold cc0_while1_skel
    have hb := round_zero hr
    have hK := hr.resolve_right (fun h => hb h.1)
    simp only [hb, ↓reduceIte, Prog.pure_eq_ret]
    iintro Hk
    rw [wp_ret]; imodintro
    iapply Hk
    ipureintro; exact hK.2
  | succ v ih =>
    intro K b hr Q
    by_cases hb : b = 1#1
    · subst hb
      rw [marks_apply]
      show _ ⊢ wp frame (wpE (defs₀ (F := Ideal)) 𝒱₀ (c : Thread nD τ) (some (v + 1))) E (cc0_while1 t n hn M k0 K 1#1) Q
      simp only [cc0_while1_eq_skeleton]; unfold cc0_while1_skel
      simp only [↓reduceIte, Prog.lift, Prog.bind_op, Prog.bind_ret, Prog.pure_eq_ret]
      iintro Hk
      iapply (wp_call_spec 𝒱₀ (c : Thread nD τ) (some (v + 1)) E (marks o k) v
        (fun u hu => by cases hu; exact Nat.lt_succ_self v) (ih _ _ (round_succ hM hk hr)))
      rw [marks_apply]
      iintro %r %h
      rw [wp_ret]; imodintro
      iapply Hk
      ipureintro; exact h
    · rw [marks_apply]
      show _ ⊢ wp frame (wpE (defs₀ (F := Ideal)) 𝒱₀ (c : Thread nD τ) (some (v + 1))) E (cc0_while1 t n hn M k0 K b) Q
      simp only [cc0_while1_eq_skeleton]; unfold cc0_while1_skel
      have hK := hr.resolve_right (fun h => hb h.1)
      simp only [hb, ↓reduceIte, Prog.pure_eq_ret]
      iintro Hk
      rw [wp_ret]; imodintro
      iapply Hk
      ipureintro; exact hK.2

end Cert.KernelIdeal.Nms

end
-- ==== Proof.Words.lean ====
/-
  The kernel's counters as numbers: trips, offsets and the count of kept boxes rounded up to a multiple of 128.
-/
module

public import proofs.«01_k».proof.Proof.Gen.KernelIdeal

@[expose] public section

set_option maxRecDepth 16384

noncomputable section

namespace Cert.KernelIdeal.Nms

open Idealize.ShloMosaic Cert.KernelIdeal Cert.KernelIdeal.Gen

/-- The count's word is a multiple of 128 within the kept boxes' room. -/
def cnt (q : ℕ) : BitVec 32 := BitVec.ofNat 32 (128 * q)

theorem chk_fin : ∀ q : Fin 157, k0_chk1 (cnt q) := by decide +kernel

theorem chk_cnt (q : ℕ) (h : q < 157) : k0_chk1 (cnt q) := chk_fin ⟨q, h⟩

theorem trips_fin : ∀ q : Fin 157, (k0_t2_loop (cnt q)).trips = (q.1 + 3) / 4 := by decide +kernel

theorem trips_cnt (q : ℕ) (h : q < 157) : (k0_t2_loop (cnt q)).trips = (q + 3) / 4 := trips_fin ⟨q, h⟩

theorem off7_fin : ∀ q : Fin 157, k0_off7 (cnt q) = ![0, 128 * q.1] := by decide +kernel

theorem off7_cnt (q : ℕ) (h : q < 157) : k0_off7 (cnt q) = ![0, 128 * q] := off7_fin ⟨q, h⟩

theorem off3_cnt (n : BitVec 32) (k : Fin (k0_t2_loop n).trips) (h : k.1 < 40) : k0_off3 n k = ![0, 512 * k.1] := by
  obtain ⟨k, hk⟩ := k
  unfold k0_off3
  have : ∀ k : Fin 40, (Scalar.indexCast (Scalar.muli (Scalar.muli 2#32 (Scf.iv 0#32 1#32 k.1)) 256#32)).toNat = 512 * k.1 := by decide +kernel
  exact congrArg (fun x => ![0, x]) (this ⟨k, h⟩)

theorem off4_cnt (n : BitVec 32) (k : Fin (k0_t2_loop n).trips) (h : k.1 < 40) : k0_off4 n k = ![0, 512 * k.1 + 256] := by
  obtain ⟨k, hk⟩ := k
  unfold k0_off4
  have : ∀ k : Fin 40, (Scalar.indexCast (Scalar.muli (Scalar.addi (Scalar.muli 2#32 (Scf.iv 0#32 1#32 k.1)) 1#32) 256#32)).toNat = 512 * k.1 + 256 := by decide +kernel
  exact congrArg (fun x => ![0, x]) (this ⟨k, h⟩)

/-- The count after a tile that kept `n` boxes, as the kernel computes it from the number's word. -/
def advance (a x : BitVec 32) : BitVec 32 :=
  let y : BitVec 32 := Scalar.addi x 127#32
  let d : BitVec 32 := Scalar.divsi y 128#32
  let g : BitVec 32 := Scalar.extui (Scalar.cmpi .sgt y 0#32)
  let l : BitVec 32 := Scalar.extui (Scalar.cmpi .slt y 0#32)
  let g' : BitVec 32 := Scalar.extui (Scalar.cmpi .sgt 128#32 0#32)
  let l' : BitVec 32 := Scalar.extui (Scalar.cmpi .slt 128#32 0#32)
  Scalar.addi a (Scalar.muli (Scalar.select (Scalar.andi (Scalar.cmpi .ne (Scalar.subi g l) (Scalar.subi g' l'))
    (Scalar.cmpi .ne (Scalar.remsi y 128#32) 0#32)) (Scalar.subi d 1#32) d) 128#32)

theorem advance_fin : ∀ n : Fin 257, advance 0#32 (BitVec.ofNat 32 n.1) = BitVec.ofNat 32 (128 * ((n.1 + 127) / 128)) := by decide +kernel

theorem advance_cnt (q n : ℕ) (hn : n ≤ 256) : advance (cnt q) (BitVec.ofNat 32 n) = cnt (q + (n + 127) / 128) := by
  have h := advance_fin ⟨n, by omega⟩
  have e : ∀ a x, advance a x = a + advance 0#32 x := by
    intro a x; unfold advance; simp [Scalar.addi, IntOp.addi]
  rw [e, h]
  unfold cnt
  rw [← BitVec.ofNat_add]
  congr 1
  show 128 * q + 128 * ((n + 127) / 128) = _
  omega

end Cert.KernelIdeal.Nms

end
-- ==== Proof.KeptLoop.lean ====
/-
  The loop over the kept boxes of the earlier tiles: an entry of its result is above the threshold exactly where a kept
  box of its columns overlaps the row's box.
-/
module

public import proofs.«01_k».proof.Proof.While
public import proofs.«01_k».proof.Proof.Words

@[expose] public section

set_option maxRecDepth 16384

noncomputable section

namespace Cert.KernelIdeal.Nms

open scoped Classical
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Nms

local notation "𝕄" => MT nD τ sig Unit (Elt Ideal) ℕ (UR sig nD τ) ℕ

/-- The box in a column of the kept boxes' room. -/
def keptBox (X : S8x32384.Idx → EReal) (p : ℕ) : Box :=
  if h : p < 32384 then ⟨X (ix2 0 ⟨p, h⟩), X (ix2 1 ⟨p, h⟩), X (ix2 2 ⟨p, h⟩), X (ix2 3 ⟨p, h⟩)⟩ else Box.zero

/-- The loop's accumulator after the columns below `n`. -/
def Seen (v36 : Vec Ideal S256x8 .f32) (X : S8x32384.Idx → EReal) (n : ℕ) (acc : FVec Ideal S256x128 .f32) : Prop :=
  ∀ r, (∃ c, half < acc (ix2 r c)) ↔ ∃ p < n, Over (rowBox v36 r) (keptBox X p)

theorem seen_zero (v36 : Vec Ideal S256x8 .f32) (X : S8x32384.Idx → EReal) : Seen v36 X 0 (k0_pay40 (F := Ideal)) := fun r =>
  ⟨fun ⟨c, h⟩ => absurd h (pay40_at r c), fun ⟨_, h, _⟩ => absurd h (by omega)⟩

/-- A block of the kept boxes' room, read at an index. -/
theorem ld_kept (X : S8x32384.Idx → EReal) (off : Fin 2 → ℕ) (o : ℕ) (inb : ∀ a, off a + S8x256.size a ≤ S8x32384.size a) (h : off = ![0, o])
    (a : Fin 8) (c : Fin 256) (g : o + c.1 < 32384) :
    View.ld (e' := .f32) (Val := Elt Ideal) X (Rect.unit (s := S8x32384) off S8x256.size inb) (ix2 a c) = X (ix2 a ⟨o + c.1, g⟩) := by
  subst h
  pointwise

theorem bufBox_kept (X : S8x32384.Idx → EReal) (off : Fin 2 → ℕ) (o : ℕ) (inb : ∀ a, off a + S8x256.size a ≤ S8x32384.size a) (h : off = ![0, o]) (c : Fin 256) :
    bufBox (View.ld (e' := .f32) (Val := Elt Ideal) X (Rect.unit (s := S8x32384) off S8x256.size inb)) c = keptBox X (o + c.1) := by
  have hb : o + 256 ≤ 32384 := by simpa [h] using inb 1
  have g : o + c.1 < 32384 := by omega
  unfold bufBox keptBox
  rw [dif_pos g]
  rw [ld_kept X off o inb h 0 c g, ld_kept X off o inb h 1 c g, ld_kept X off o inb h 2 c g, ld_kept X off o inb h 3 c g]

/-- One trip reads the next 512 columns. -/
theorem seen_succ (v36 : Vec Ideal S256x8 .f32) (X : S8x32384.Idx → EReal) (k : ℕ) (acc : FVec Ideal S256x128 .f32) (u v : Vec Ideal S8x256 .f32)
    (hu : ∀ c, bufBox u c = keptBox X (512 * k + c.1)) (hv : ∀ c, bufBox v c = keptBox X (512 * k + 256 + c.1))
    (h : Seen v36 X (512 * k) acc) :
    Seen v36 X (512 * (k + 1)) (k0_pay41 (k0_pay36 v36) (k0_pay37 v36) (k0_pay38 v36) (k0_pay39 v36) acc
      (k0_pay8 (k0_pay35 v36) (k0_pay36 v36) (k0_pay37 v36) (k0_pay38 v36) (k0_pay39 v36) u) (k0_pay11 v) (k0_pay12 v) (k0_pay13 v)
      (k0_pay14 (k0_pay35 v36) v) (k0_pay15 v)) := by
  intro r
  simp only [pay41_over, hu, hv]
  constructor
  · rintro ⟨c, h1 | (h1 | h1) | (h1 | h1)⟩
    · obtain ⟨p, hp, h2⟩ := (h r).1 ⟨c, h1⟩
      exact ⟨p, by omega, h2⟩
    · exact ⟨_, by omega, h1⟩
    · exact ⟨_, by omega, h1⟩
    · exact ⟨_, by omega, h1⟩
    · exact ⟨_, by omega, h1⟩
  · rintro ⟨p, hp, h1⟩
    by_cases hk : p < 512 * k
    · obtain ⟨c, h2⟩ := (h r).2 ⟨p, hk, h1⟩
      exact ⟨c, .inl h2⟩
    · obtain ⟨d, rfl⟩ : ∃ d, p = 512 * k + d := ⟨p - 512 * k, by omega⟩
      by_cases d1 : d < 128
      · exact ⟨⟨d, d1⟩, .inr (.inl (.inl h1))⟩
      by_cases d2 : d < 256
      · refine ⟨⟨d - 128, by omega⟩, .inr (.inr (.inl ?_))⟩
        rwa [show 512 * k + (128 + (d - 128)) = 512 * k + d by omega]
      by_cases d3 : d < 384
      · refine ⟨⟨d - 256, by omega⟩, .inr (.inl (.inr ?_))⟩
        rwa [show 512 * k + 256 + (d - 256) = 512 * k + d by omega]
      · refine ⟨⟨d - 384, by omega⟩, .inr (.inr (.inr ?_))⟩
        rwa [show 512 * k + 256 + (128 + (d - 384)) = 512 * k + d by omega]

set_option warn.classDefReducibility false in
@[sl_loop] def keptInv (c : Dev nD) (E : Set ℕ) (arg0 : Memref sig .tc .vmem S20224x8 .f32) (harg0 : arg0.IsWhole) (arg1 : Memref sig .tc .vmem S79x256 .f32) (harg1 : arg1.IsWhole) (arg2 : Memref sig .tc .vmem S79x256 .f32) (harg2 : arg2.IsWhole) (arg3 : Memref sig .tc .vmem S79x256 .f32) (harg3 : arg3.IsWhole) (arg4 : Memref sig .tc .vmem S79x256 .f32) (harg4 : arg4.IsWhole) (arg5 : Memref sig .tc .vmem S79x256 .f32) (harg5 : arg5.IsWhole)
    (n : BitVec 32) (hn : k0_chk1 n) (v21 v24 v27 v30 v33 : FVec Ideal S1x256 .f32) (v36 : Vec Ideal S256x8 .f32) (v57 w512 v58 v63 : BitVec 32) (v64 : BitVec 1)
    (X : S8x32384.Idx → EReal) (htr : (k0_t2_loop n).trips ≤ 40) :
    LoopInvTy_k0_t2 (F := Ideal) Unit ℕ (UR sig nD τ) ℕ 𝒱₀ c none E arg0 harg0 arg1 harg1 arg2 harg2 arg3 harg3 arg4 harg4 arg5 harg5
      (Memref.whole cc0_scratch0) (Memref.isWhole_whole _) n hn v21 v24 v27 v30 v33 (k0_pay34 v36) (k0_pay35 v36) (k0_pay36 v36) (k0_pay37 v36) (k0_pay38 v36) (k0_pay39 v36)
      v57 w512 v58 v63 v64 (k0_pay40 (F := Ideal)) where
  inv k acc := iprop(((Memref.whole cc0_scratch0).view.loc (c : Thread nD τ) ↦[(Memref.whole cc0_scratch0).view.set]{fullShare} X) ∗ ⌜Seen v36 X (512 * k) acc⌝)
  step k acc := by
    unfold k0_t2_body
    iintro ⟨H, %h⟩
    sl_exec
    sl_step
    isplitl [H]; · iexact H
    ipureintro
    have hk : k.1 < 40 := lt_of_lt_of_le k.2 htr
    exact seen_succ v36 X k.1 acc _ _ (bufBox_kept X _ _ _ (off3_cnt n k (by omega))) (bufBox_kept X _ _ _ (off4_cnt n k (by omega))) h

end Cert.KernelIdeal.Nms

end
-- ==== Proof.Tile.lean ====
/-
  What the kernel holds before each tile, and one tile's step, as plain statements about arrays.
-/
module

public import proofs.«01_k».proof.Proof.KeptLoop

@[expose] public section

set_option maxRecDepth 16384

noncomputable section

namespace Cert.KernelIdeal.Nms

open scoped Classical
open Idealize.ShloMosaic Cert.KernelIdeal Cert.KernelIdeal.Gen Cert.Nms

/-- The kernel's five arguments. -/
structure Args where
  /-- the rows: four coordinates and the candidate flag -/
  rows : S20224x8.Idx → EReal
  /-- left edges -/
  px1 : S79x256.Idx → EReal
  /-- top edges -/
  py1 : S79x256.Idx → EReal
  /-- right edges -/
  px2 : S79x256.Idx → EReal
  /-- bottom edges -/
  py2 : S79x256.Idx → EReal

variable (A : Args)

/-- Box `i` as the rows give it. -/
def Args.row (i : ℕ) : Box :=
  if h : i < 20224 then ⟨A.rows (ix2 ⟨i, h⟩ 0), A.rows (ix2 ⟨i, h⟩ 1), A.rows (ix2 ⟨i, h⟩ 2), A.rows (ix2 ⟨i, h⟩ 3)⟩ else Box.zero
/-- Box `j` as the planes give it. -/
def Args.col (j : ℕ) : Box :=
  if h : j / 256 < 79 then
    ⟨A.px1 (ix2 ⟨j / 256, h⟩ ⟨j % 256, by omega⟩), A.py1 (ix2 ⟨j / 256, h⟩ ⟨j % 256, by omega⟩), A.px2 (ix2 ⟨j / 256, h⟩ ⟨j % 256, by omega⟩),
      A.py2 (ix2 ⟨j / 256, h⟩ ⟨j % 256, by omega⟩)⟩
  else Box.zero
/-- Box `i` is a candidate. -/
def Args.cand (i : ℕ) : Prop := ∃ h : i < 20224, A.rows (ix2 ⟨i, h⟩ 4) = 1
/-- The candidate flags are zero or one. -/
def Args.Ok : Prop := ∀ i : Fin 20224, A.rows (ix2 i 4) = 0 ∨ A.rows (ix2 i 4) = 1
/-- Box `i` overlaps box `j`. -/
def Args.over (i j : ℕ) : Prop := Over (A.row i) (A.col j)
/-- Box `i` is kept by the greedy order. -/
def Args.kept (i : ℕ) : Prop := keeps A.cand A.over i

/-- Before tile `t`: the marks of the earlier tiles, and the room's columns. -/
structure Before (t q : ℕ) (X5 : S79x256.Idx → EReal) (X6 : S8x32384.Idx → EReal) : Prop where
  room : q ≤ 2 * t
  done : ∀ (s : Fin 79) (j : Fin 256), s.1 < t → X5 (ix2 s j) = ind (A.kept (256 * s.1 + j.1))
  held : ∀ i, i < 256 * t → A.kept i → ∃ p < 128 * q, keptBox X6 p = A.col i
  only : ∀ p, keptBox X6 p = Box.zero ∨ ∃ i < 256 * t, A.kept i ∧ keptBox X6 p = A.col i

variable {A}

theorem before_zero (X5 : S79x256.Idx → EReal) (X6 : S8x32384.Idx → EReal) (h : ∀ i, X6 i = 0) : Before A 0 0 X5 X6 where
  room := le_rfl
  done _ _ h := absurd h (by omega)
  held _ h := absurd h (by omega)
  only p := .inl (by unfold keptBox; split <;> simp [h, Box.zero])

/-- The test against the kept boxes of the earlier tiles. -/
theorem Before.cross {t q : ℕ} {X5 : S79x256.Idx → EReal} {X6 : S8x32384.Idx → EReal} (h : Before A t q X5 X6) (n : ℕ) (hn : 128 * q ≤ n) (b : Box) :
    (∃ p < n, Over b (keptBox X6 p)) ↔ ∃ i < 256 * t, A.kept i ∧ Over b (A.col i) := by
  constructor
  · rintro ⟨p, _, ho⟩
    rcases h.only p with hz | ⟨i, hi, hk, he⟩
    · rw [hz] at ho; exact absurd ho (not_over_zero b)
    · exact ⟨i, hi, hk, he ▸ ho⟩
  · rintro ⟨i, hi, hk, ho⟩
    obtain ⟨p, hp, he⟩ := h.held i hi hk
    exact ⟨p, by omega, he ▸ ho⟩

/-- The candidates of tile `t` that no kept box of an earlier tile overlaps. -/
def Args.left (A : Args) (t : ℕ) (r : Fin 256) : Prop := A.cand (256 * t + r.1) ∧ ¬ ∃ i < 256 * t, A.kept i ∧ A.over (256 * t + r.1) i

/-- The tile's final marks are the greedy order's. -/
theorem settled_kept (t : ℕ) (r : Fin 256) :
    settled (fun r c => A.over (256 * t + r.1) (256 * t + c.1)) (A.left t) r ↔ A.kept (256 * t + r.1) := by
  have hu : ∀ m, Upto (fun r c => A.over (256 * t + r.1) (256 * t + c.1)) (A.left t) m fun r => A.kept (256 * t + r.1) := by
    intro m
    induction m with
    | zero => exact upto_zero _ _ _
    | succ m ih =>
      have hs := upto_next ih
      intro r hr
      rw [← hs r hr]
      show keeps A.cand A.over (256 * t + r.1) ↔ A.left t r ∧ ¬ ∃ c : Fin 256, (A.over (256 * t + r.1) (256 * t + c.1) ∧ c < r) ∧ A.kept (256 * t + c.1)
      rw [keeps_iff]
      unfold Args.left
      constructor
      · rintro ⟨hc, h⟩
        refine ⟨⟨hc, fun ⟨i, hi, hk, ho⟩ => h i (by omega) hk ho⟩, fun ⟨c, ⟨ho, hcr⟩, hk⟩ => h _ ?_ hk ho⟩
        have := Fin.lt_def.1 hcr; omega
      · rintro ⟨⟨hc, h1⟩, h2⟩
        refine ⟨hc, fun j hj hk ho => ?_⟩
        by_cases hjt : j < 256 * t
        · exact h1 ⟨j, hjt, hk, ho⟩
        · obtain ⟨d, rfl⟩ : ∃ d, j = 256 * t + d := ⟨j - 256 * t, by omega⟩
          exact h2 ⟨⟨d, by omega⟩, ⟨ho, Fin.lt_def.2 (by dsimp only; omega)⟩, hk⟩
  exact (hu 256 r r.2).symm

/-- One tile's step: the tile's row of marks written, its kept boxes put into the room's next columns. -/
theorem Before.step {t q : ℕ} {X5 X5' : S79x256.Idx → EReal} {X6 X6' : S8x32384.Idx → EReal} (h : Before A t q X5 X6)
    (W : Fin 256 → Box)
    (h5 : ∀ (s : Fin 79) (j : Fin 256), X5' (ix2 s j) = if s.1 = t then ind (A.kept (256 * t + j.1)) else X5 (ix2 s j))
    (h6 : ∀ c : Fin 256, keptBox X6' (128 * q + c.1) = W c)
    (h6' : ∀ p, p < 128 * q ∨ 128 * q + 256 ≤ p → keptBox X6' p = keptBox X6 p)
    (hk : ∀ x c : Fin 256, A.kept (256 * t + x.1) → rank (fun r => A.kept (256 * t + r.1)) x = c.1 → W c = A.col (256 * t + x.1))
    (hr : ∀ c : Fin 256, (∀ x : Fin 256, A.kept (256 * t + x.1) → rank (fun r => A.kept (256 * t + r.1)) x ≠ c.1) → W c = Box.zero) :
    Before A (t + 1) (q + (total (fun r : Fin 256 => A.kept (256 * t + r.1)) + 127) / 128) X5' X6' := by
  have ht := total_le (fun r : Fin 256 => A.kept (256 * t + r.1))
  have hroom := h.room
  refine ⟨by omega, ?_, ?_, ?_⟩
  · intro s j hs
    rw [h5]
    split
    · next e => rw [e]
    · next e => exact h.done s j (by omega)
  · intro i hi hki
    by_cases hit : i < 256 * t
    · obtain ⟨p, hp, he⟩ := h.held i hit hki
      exact ⟨p, by omega, by rw [h6' p (.inl hp), he]⟩
    · obtain ⟨d, rfl⟩ : ∃ d, i = 256 * t + d := ⟨i - 256 * t, by omega⟩
      have hd : d < 256 := by omega
      have hl := rank_lt_total (fun r : Fin 256 => A.kept (256 * t + r.1)) ⟨d, hd⟩ hki
      refine ⟨128 * q + rank (fun r : Fin 256 => A.kept (256 * t + r.1)) ⟨d, hd⟩, by omega, ?_⟩
      rw [h6 ⟨_, lt_of_lt_of_le hl ht⟩]
      exact hk ⟨d, hd⟩ _ hki rfl
  · intro p
    by_cases hp : p < 128 * q ∨ 128 * q + 256 ≤ p
    · rw [h6' p hp]
      rcases h.only p with hz | ⟨i, hi, hki, he⟩
      · exact .inl hz
      · exact .inr ⟨i, by omega, hki, he⟩
    · obtain ⟨d, rfl⟩ : ∃ d, p = 128 * q + d := ⟨p - 128 * q, by omega⟩
      have hd : d < 256 := by omega
      rw [h6 ⟨d, hd⟩]
      by_cases hx : ∃ x : Fin 256, A.kept (256 * t + x.1) ∧ rank (fun r => A.kept (256 * t + r.1)) x = d
      · obtain ⟨x, hkx, hrx⟩ := hx
        exact .inr ⟨256 * t + x.1, by omega, hkx, hk x ⟨d, hd⟩ hkx hrx⟩
      · exact .inl (hr ⟨d, hd⟩ fun x hkx e => hx ⟨x, hkx, e⟩)

end Cert.KernelIdeal.Nms

end
-- ==== Proof.Loads.lean ====
/-
  What one tile reads from the kernel's arguments.
-/
module

public import proofs.«01_k».proof.Proof.Tile

@[expose] public section

set_option maxRecDepth 16384

noncomputable section

namespace Cert.KernelIdeal.Nms

open scoped Classical
open Idealize.ShloMosaic Cert.KernelIdeal Cert.KernelIdeal.Gen Cert.Nms

variable (A : Args) (t : Fin k0_t1_loop.trips)

theorem tile_lt : t.1 < 79 := lt_of_lt_of_le t.2 (by decide +kernel)

/-- The tile's rows. -/
abbrev Args.rowsOf : Vec Ideal S256x8 .f32 :=
  View.ld (e' := .f32) (Val := Elt Ideal) A.rows (Rect.unit (s := S20224x8) (k0_off2 t) S256x8.size (k0_off2_inb t))
/-- The tile's row of a plane. -/
abbrev planeOf (x : S79x256.Idx → EReal) : Vec Ideal S1x256 .f32 :=
  View.ld (e' := .f32) (Val := Elt Ideal) x (Rect.unit (s := S79x256) (k0_off1 t) S1x256.size (k0_off1_inb t))

theorem ld_rows (X : S20224x8.Idx → EReal) (off : Fin 2 → ℕ) (o : ℕ) (inb : ∀ a, off a + S256x8.size a ≤ S20224x8.size a) (h : off = ![o, 0])
    (r : Fin 256) (a : Fin 8) (g : o + r.1 < 20224) :
    View.ld (e' := .f32) (Val := Elt Ideal) X (Rect.unit (s := S20224x8) off S256x8.size inb) (ix2 r a) = X (ix2 ⟨o + r.1, g⟩ a) := by
  subst h
  pointwise

theorem ld_plane (X : S79x256.Idx → EReal) (off : Fin 2 → ℕ) (o : ℕ) (inb : ∀ a, off a + S1x256.size a ≤ S79x256.size a) (h : off = ![o, 0])
    (c : Fin 256) (g : o < 79) :
    View.ld (e' := .f32) (Val := Elt Ideal) X (Rect.unit (s := S79x256) off S1x256.size inb) (ix2 0 c) = X (ix2 ⟨o, g⟩ c) := by
  subst h
  pointwise

theorem rowsOf_at (r : Fin 256) (a : Fin 8) (h : 256 * t.1 + r.1 < 20224) : A.rowsOf t (ix2 r a) = A.rows (ix2 ⟨256 * t.1 + r.1, h⟩ a) :=
  ld_rows A.rows _ _ _ (k0_off2_eq t) r a h

theorem planeOf_at (x : S79x256.Idx → EReal) (c : Fin 256) : planeOf t x (ix2 0 c) = x (ix2 ⟨t.1, tile_lt t⟩ c) :=
  ld_plane x _ _ _ (k0_off1_eq t) c (tile_lt t)

theorem rowBox_of (r : Fin 256) : rowBox (A.rowsOf t) r = A.row (256 * t.1 + r.1) := by
  have ht := tile_lt t
  have h : 256 * t.1 + r.1 < 20224 := by omega
  unfold rowBox Args.row
  rw [dif_pos h, rowsOf_at A t r 0 h, rowsOf_at A t r 1 h, rowsOf_at A t r 2 h, rowsOf_at A t r 3 h]

theorem colBox_of (c : Fin 256) : colBox (planeOf t A.px1) (planeOf t A.py1) (planeOf t A.px2) (planeOf t A.py2) c = A.col (256 * t.1 + c.1) := by
  have ht := tile_lt t
  have e : (256 * t.1 + c.1) / 256 = t.1 := by omega
  have g : (256 * t.1 + c.1) % 256 = c.1 := by omega
  unfold colBox Args.col
  rw [planeOf_at, planeOf_at, planeOf_at, planeOf_at]
  simp only [e, g, dif_pos ht]

/-- The loop over the kept boxes leaves the tile's remaining candidates. -/
theorem left_holds (hA : A.Ok) {q : ℕ} {X5 : S79x256.Idx → EReal} {X6 : S8x32384.Idx → EReal} (hb : Before A t.1 q X5 X6) (n : ℕ) (hn : 128 * q ≤ n)
    (acc : FVec Ideal S256x128 .f32) (h : Seen (A.rowsOf t) X6 n acc) : Holds (k0_pay43 (k0_pay34 (A.rowsOf t)) acc) (A.left t.1) := by
  intro r
  have ht := tile_lt t
  have hr : 256 * t.1 + r.1 < 20224 := by omega
  rw [pay43_at]
  have e : k0_pay34 (A.rowsOf t) (ix2 r 0) = A.rows (ix2 ⟨256 * t.1 + r.1, hr⟩ 4) := by
    rw [← rowsOf_at A t r 4 hr]
    pointwise [k0_pay34, k0_pay29]
  rw [e]
  have hc : A.rows (ix2 ⟨256 * t.1 + r.1, hr⟩ 4) = ind (A.cand (256 * t.1 + r.1)) := by
    unfold ind
    split
    · next g => obtain ⟨_, g⟩ := g; exact g
    · next g => exact (hA ⟨_, hr⟩).resolve_right fun g' => g ⟨hr, g'⟩
  have hx := (h r).trans (hb.cross n hn (rowBox (A.rowsOf t) r))
  rw [rowBox_of] at hx
  rw [hc, if_congr hx rfl rfl]
  unfold ind Args.left Args.over
  by_cases a : A.cand (256 * t.1 + r.1) <;> by_cases b : ∃ i < 256 * t.1, A.kept i ∧ Over (A.row (256 * t.1 + r.1)) (A.col i) <;> simp only [a, b, if_true, if_false, not_true, not_false_eq_true, and_true, and_false]

/-- The tile's pairs. -/
theorem pairs_of (r c : Fin 256) :
    k0_pay45 (k0_pay2 (F := Ideal)) (k0_pay44 (k0_pay24 (planeOf t A.px1)) (k0_pay25 (planeOf t A.py1)) (k0_pay26 (planeOf t A.px2)) (k0_pay27 (planeOf t A.py2))
        (k0_pay28 (planeOf t A.px1) (planeOf t A.py1) (planeOf t A.px2) (planeOf t A.py2)) (k0_pay35 (A.rowsOf t)) (k0_pay36 (A.rowsOf t)) (k0_pay37 (A.rowsOf t))
        (k0_pay38 (A.rowsOf t)) (k0_pay39 (A.rowsOf t))) (Scalar.ofBits .f32 0x3F000000#32) (ix2 r c)
      = ind (A.over (256 * t.1 + r.1) (256 * t.1 + c.1) ∧ c < r) := by
  rw [pay45_at, rowBox_of, colBox_of]
  rfl

end Cert.KernelIdeal.Nms

end
-- ==== Proof.Stores.lean ====
/-
  What one tile leaves in the marks and in the kept boxes' room.
-/
module

public import proofs.«01_k».proof.Proof.Loads
public import Idealize.ShloMosaic.Lib.VecWindow

@[expose] public section

set_option maxRecDepth 16384

noncomputable section

namespace Cert.KernelIdeal.Nms

open scoped Classical
open Idealize.ShloMosaic Cert.KernelIdeal Cert.KernelIdeal.Gen Cert.Nms

variable (A : Args) (t : Fin k0_t1_loop.trips)

/-- The marks after the tile's store. -/
abbrev marksOf (X : S79x256.Idx → EReal) (w : FVec Ideal S1x256 .f32) : S79x256.Idx → EReal :=
  (Memref.whole cc0_stg5_0).view.writes (Elt Ideal) X [⟨Rect.unit (s := S79x256) (k0_off8 t) S1x256.size (k0_off8_inb t), w⟩]
/-- The room after the tile's store. -/
abbrev roomOf (n : BitVec 32) (hn : k0_chk1 n) (X : S8x32384.Idx → EReal) (w : FVec Ideal S4x256 .f32) : S8x32384.Idx → EReal :=
  (Memref.whole cc0_scratch0).view.writes (Elt Ideal) X [⟨Rect.unit (s := S8x32384) (k0_off7 n) S4x256.size (k0_off7_inb n hn), w⟩]

theorem marksOf_in (X : S79x256.Idx → EReal) (w : FVec Ideal S1x256 .f32) (s : Fin 79) (j : Fin 256) (h : s.1 = t.1) :
    marksOf t X w (ix2 s j) = w (ix2 0 j) := by
  have e := View.read_writes_cons_unit_of_mem (Val := Elt Ideal) (e := .f32) (s := S79x256) (Memref.whole cc0_stg5_0).view X (k0_off8_inb t) w [] (ix2 s j)
    (ix2 0 j) (k0_off8_eq t) (by
      intro a
      fin_cases a
      · show s.1 = t.1 + 0
        omega
      · show j.1 = 0 + j.1
        omega)
  exact e

theorem marksOf_off (X : S79x256.Idx → EReal) (w : FVec Ideal S1x256 .f32) (s : Fin 79) (j : Fin 256) (h : s.1 ≠ t.1) :
    marksOf t X w (ix2 s j) = X (ix2 s j) := by
  have e := View.read_writes_cons_unit_of_not_mem (Val := Elt Ideal) (e := .f32) (s := S79x256) (Memref.whole cc0_stg5_0).view X (k0_off8_inb t) w [] (ix2 s j)
    (k0_off8_eq t) 0 (by
      show s.1 < t.1 ∨ t.1 + 1 ≤ s.1
      omega)
  exact e

theorem marksOf_at (X : S79x256.Idx → EReal) (w : FVec Ideal S1x256 .f32) (s : Fin 79) (j : Fin 256) :
    marksOf t X w (ix2 s j) = if s.1 = t.1 then w (ix2 0 j) else X (ix2 s j) := by
  by_cases h : s.1 = t.1
  · rw [if_pos h, marksOf_in t X w s j h]
  · rw [if_neg h, marksOf_off t X w s j h]

theorem roomOf_at (q : ℕ) (hq : q < 157) (X : S8x32384.Idx → EReal) (w : FVec Ideal S4x256 .f32) (c : Fin 256) (g : 128 * q + c.1 < 32384)
    (b : Fin 8) (a : Fin 4) (hab : b.1 = a.1) : roomOf (cnt q) (chk_cnt q hq) X w (ix2 b ⟨128 * q + c.1, g⟩) = w (ix2 a c) := by
  have e := View.read_writes_cons_unit_of_mem (Val := Elt Ideal) (e := .f32) (s := S8x32384) (Memref.whole cc0_scratch0).view X (k0_off7_inb _ (chk_cnt q hq)) w []
    (ix2 b ⟨128 * q + c.1, g⟩) (ix2 a c) (off7_cnt q hq) (by
      intro d
      fin_cases d
      · show b.1 = 0 + a.1
        omega
      · rfl)
  exact e

theorem roomOf_in (q : ℕ) (hq : q < 157) (X : S8x32384.Idx → EReal) (w : FVec Ideal S4x256 .f32) (c : Fin 256) :
    keptBox (roomOf (cnt q) (chk_cnt q hq) X w) (128 * q + c.1) = ⟨w (ix2 0 c), w (ix2 1 c), w (ix2 2 c), w (ix2 3 c)⟩ := by
  have g : 128 * q + c.1 < 32384 := by omega
  unfold keptBox
  rw [dif_pos g, roomOf_at q hq X w c g 0 0 rfl, roomOf_at q hq X w c g 1 1 rfl, roomOf_at q hq X w c g 2 2 rfl, roomOf_at q hq X w c g 3 3 rfl]

theorem roomOf_off (q : ℕ) (hq : q < 157) (X : S8x32384.Idx → EReal) (w : FVec Ideal S4x256 .f32) (p : ℕ) (hp : p < 128 * q ∨ 128 * q + 256 ≤ p) (g : p < 32384)
    (b : Fin 8) : roomOf (cnt q) (chk_cnt q hq) X w (ix2 b ⟨p, g⟩) = X (ix2 b ⟨p, g⟩) := by
  have e := View.read_writes_cons_unit_of_not_mem (Val := Elt Ideal) (e := .f32) (s := S8x32384) (Memref.whole cc0_scratch0).view X (k0_off7_inb _ (chk_cnt q hq)) w []
    (ix2 b ⟨p, g⟩) (off7_cnt q hq) 1 hp
  exact e

theorem roomOf_out (q : ℕ) (hq : q < 157) (X : S8x32384.Idx → EReal) (w : FVec Ideal S4x256 .f32) (p : ℕ) (hp : p < 128 * q ∨ 128 * q + 256 ≤ p) :
    keptBox (roomOf (cnt q) (chk_cnt q hq) X w) p = keptBox X p := by
  unfold keptBox
  split
  · next g => rw [roomOf_off q hq X w p hp g, roomOf_off q hq X w p hp g, roomOf_off q hq X w p hp g, roomOf_off q hq X w p hp g]
  · rfl

/-- The tile's marks and its kept boxes stored, the next tile may begin. -/
theorem Before.next {A : Args} {t : Fin k0_t1_loop.trips} {q : ℕ} (hq : q < 157) {X5 : S79x256.Idx → EReal} {X6 : S8x32384.Idx → EReal} (hb : Before A t.1 q X5 X6)
    {K : FVec Ideal S256x1 .f32} (hK : Holds K (settled (fun r c => A.over (256 * t.1 + r.1) (256 * t.1 + c.1)) (A.left t.1))) :
    advance (cnt q) (Scalar.fptosi (F := Ideal) (φ := .f32) 32 (k0_pay48 K)) = cnt (q + (total (fun r : Fin 256 => A.kept (256 * t.1 + r.1)) + 127) / 128) ∧
    Before A (t.1 + 1) (q + (total (fun r : Fin 256 => A.kept (256 * t.1 + r.1)) + 127) / 128) (marksOf t X5 (k0_pay47 (k0_pay4 (F := Ideal)) K))
      (roomOf (cnt q) (chk_cnt q hq) X6 (k0_pay46 (k0_pay3 (F := Ideal)) (k0_pay5 (F := Ideal)) (k0_pay24 (planeOf t A.px1)) (k0_pay25 (planeOf t A.py1))
        (k0_pay26 (planeOf t A.px2)) (k0_pay27 (planeOf t A.py2)) K)) := by
  have hK' : Holds K fun r => A.kept (256 * t.1 + r.1) := fun r => (hK r).trans (ind_congr (settled_kept t.1 r))
  constructor
  · rw [pay48_at K _ hK', advance_cnt q _ (total_le _)]
  · refine hb.step (fun c => _) (fun s j => ?_) (fun c => roomOf_in q hq _ _ c) (fun p hp => roomOf_out q hq _ _ p hp) (fun x c hx hc => ?_) (fun c hc => ?_)
    · rw [marksOf_at, pay47_at K _ hK']
    · rw [pay46_kept K _ hK' _ _ _ _ 0 c x hx hc, pay46_kept K _ hK' _ _ _ _ 1 c x hx hc, pay46_kept K _ hK' _ _ _ _ 2 c x hx hc,
        pay46_kept K _ hK' _ _ _ _ 3 c x hx hc, ← colBox_of]
      rfl
    · rw [pay46_rest K _ hK' _ _ _ _ 0 c hc, pay46_rest K _ hK' _ _ _ _ 1 c hc, pay46_rest K _ hK' _ _ _ _ 2 c hc, pay46_rest K _ hK' _ _ _ _ 3 c hc]
      rfl

end Cert.KernelIdeal.Nms

end
-- ==== Proof.Body.lean ====
/-
  The kernel's loop over the tiles: its marks are the greedy order's.
-/
module

public import proofs.«01_k».proof.Proof.Stores
public import Idealize.ShloMosaic.Lib.LoopRemainder

@[expose] public section

set_option maxRecDepth 16384

noncomputable section

namespace Cert.KernelIdeal.Nms

open scoped Classical
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Nms

local notation "𝕄" => MT nD τ sig Unit (Elt Ideal) ℕ (UR sig nD τ) ℕ

/-- A whole buffer of the core at its contents. -/
abbrev at' (c : Dev nD) {s : Shape} {e : EltTy} (m : Memref sig .tc .vmem s e) (X : Buf (Elt Ideal) (m.view.loc (c : Thread nD τ))) : sProp 𝕄 :=
  iprop(m.view.loc (c : Thread nD τ) ↦[m.view.set]{fullShare} X)

set_option warn.classDefReducibility false in
@[sl_loop] def tilesInv (c : Dev nD) (A : Args) (hA : A.Ok) :
    LoopInvTy_k0_t1 (F := Ideal) Unit ℕ (UR sig nD τ) ℕ 𝒱₀ c none Set.univ (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) 0#32 where
  inv t acc := iprop(at' c (Memref.whole cc0_stg0_0) A.rows ∗ at' c (Memref.whole cc0_stg1_0) A.px1 ∗ at' c (Memref.whole cc0_stg2_0) A.py1
    ∗ at' c (Memref.whole cc0_stg3_0) A.px2 ∗ at' c (Memref.whole cc0_stg4_0) A.py2
    ∗ ∃ (q : ℕ) (X5 : S79x256.Idx → EReal) (X6 : S8x32384.Idx → EReal), ⌜acc = cnt q ∧ Before A t q X5 X6⌝ ∗ at' c (Memref.whole cc0_stg5_0) X5 ∗ at' c (Memref.whole cc0_scratch0) X6)
  step t acc := by
    unfold k0_t1_body
    iintro ⟨H0, H1, H2, H3, H4, ⟨%q, %X5, %X6, %h, H5, H6⟩⟩
    obtain ⟨rfl, hb⟩ := h
    have ht : t.1 < 79 := lt_of_lt_of_le t.2 (by decide +kernel)
    have hq : q < 157 := by have := hb.room; omega
    have hchk := chk_cnt q hq
    have htr : (k0_t2_loop (cnt q)).trips ≤ 40 := by rw [trips_cnt q hq]; omega
    have hs : Seen (View.readAt (Elt Ideal) (Memref.whole cc0_stg0_0).view (Rect.unit (s := S20224x8) (k0_off2 t) S256x8.size (k0_off2_inb t)).toLoadRect A.rows)
      X6 (512 * 0) (k0_pay40 (F := Ideal)) := seen_zero _ _
    sl_exec
    have hk := left_holds A t hA hb _ (by have := trips_cnt q hq; unfold Scf.Loop.trips at this; omega) _ hL1
    iapply (wp_call_spec 𝒱₀ (c : Thread nD τ) none Set.univ (marks (fun r c => A.over (256 * t.1 + r.1) (256 * t.1 + c.1)) (A.left t.1)) 257
      (fun u hu => nomatch hu) (marks_le c Set.univ t (cnt q) hchk (pairs_of A t) hk 257 _ _ (round_start _ _ _ _ hk)))
    rw [marks_apply]
    iintro %K %hK
    obtain ⟨K, b⟩ := K
    have hn := hb.next hq hK
    sl_exec
    sl_step
    isplitl [H0]; · iexact H0
    isplitl [H1]; · iexact H1
    isplitl [H2]; · iexact H2
    isplitl [H3]; · iexact H3
    isplitl [H4]; · iexact H4
    iexists (q + (total (fun r : Fin 256 => A.kept (256 * t.1 + r.1)) + 127) / 128), (marksOf t X5 (k0_pay47 (k0_pay4 (F := Ideal)) K)),
      (roomOf (cnt q) (chk_cnt q hq) X6 (k0_pay46 (k0_pay3 (F := Ideal)) (k0_pay5 (F := Ideal)) (k0_pay24 (planeOf t A.px1)) (k0_pay25 (planeOf t A.py1))
        (k0_pay26 (planeOf t A.px2)) (k0_pay27 (planeOf t A.py2)) K))
    isplitr
    · ipureintro; exact hn
    isplitl [H5]; · iexact H5
    iexact H6

end Cert.KernelIdeal.Nms

end
-- ==== Proof.Whole.lean ====
/-
  The whole kernel: from its five arguments it leaves the greedy order's marks, and nothing else of the core's.
-/
module

public import proofs.«01_k».proof.Proof.Body

@[expose] public section

set_option maxRecDepth 200000

noncomputable section

namespace Cert.KernelIdeal.Nms

open scoped Classical
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Nms

local notation "𝕄" => MT nD τ sig Unit (Elt Ideal) ℕ (UR sig nD τ) ℕ

/-- The greedy order's marks, as the planes of the result. -/
def Args.marks (A : Args) : S79x256.Idx → EReal := fun i => ind (A.kept (256 * (i 0).1 + (i 1).1))

theorem Before.all {A : Args} {t q : ℕ} {X5 : S79x256.Idx → EReal} {X6 : S8x32384.Idx → EReal} (h : Before A t q X5 X6) (ht : 79 ≤ t) : X5 = A.marks := by
  funext i
  have e : i = ix2 (i 0) (i 1) := (ix2_eta i).symm
  have hi : (i 0).1 < 79 := (i 0).2
  have := h.done (i 0) (i 1) (by omega)
  exact (congrArg X5 e).trans this

theorem pay1_at (i : S8x32384.Idx) : k0_pay1 (F := Ideal) i = (0 : EReal) := by
  unfold k0_pay1
  pointwise

/-- The room filled with zeros. -/
theorem zero_room (X : S8x32384.Idx → EReal) (i : S8x32384.Idx) :
    (Memref.whole cc0_scratch0).view.writes (Elt Ideal) X
      [⟨Rect.unit (s := S8x32384) ![0, 0] S8x32384.size inb_S8x32384_S8x32384_0_0, k0_pay1 (F := Ideal)⟩] i = (0 : EReal) := by
  have e := View.read_writes_cons_unit_of_mem (Val := Elt Ideal) (e := .f32) (s := S8x32384) (Memref.whole cc0_scratch0).view X inb_S8x32384_S8x32384_0_0
    (k0_pay1 (F := Ideal)) [] i i rfl (by
      intro a
      fin_cases a
      · show (i 0).1 = 0 + (i 0).1
        omega
      · show (i 1).1 = 0 + (i 1).1
        omega)
  have z : k0_pay1 (F := Ideal) i = (0 : EReal) := pay1_at i
  rw [z] at e
  exact e

/-- The whole kernel's run. -/
theorem whole (c : Dev nD) (A : Args) (hA : A.Ok) (X5 : S79x256.Idx → EReal) (X6 : S8x32384.Idx → EReal) (Q : PUnit → sProp 𝕄) :
    iprop(at' c (Memref.whole cc0_stg0_0) A.rows ∗ at' c (Memref.whole cc0_stg1_0) A.px1 ∗ at' c (Memref.whole cc0_stg2_0) A.py1
      ∗ at' c (Memref.whole cc0_stg3_0) A.px2 ∗ at' c (Memref.whole cc0_stg4_0) A.py2 ∗ at' c (Memref.whole cc0_stg5_0) X5 ∗ at' c (Memref.whole cc0_scratch0) X6
      ∗ ((at' c (Memref.whole cc0_stg0_0) A.rows ∗ at' c (Memref.whole cc0_stg1_0) A.px1 ∗ at' c (Memref.whole cc0_stg2_0) A.py1
      ∗ at' c (Memref.whole cc0_stg3_0) A.px2 ∗ at' c (Memref.whole cc0_stg4_0) A.py2 ∗ at' c (Memref.whole cc0_stg5_0) A.marks
      ∗ ∃ Y : S8x32384.Idx → EReal, at' c (Memref.whole cc0_scratch0) Y) -∗ Q ⟨⟩))
      ⊢ wp frame (wpE (defs₀ (F := Ideal)) 𝒱₀ (c : Thread nD τ) none) Set.univ
          (cc0__nms_tiles_kernel (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_stg5_0) (Memref.isWhole_whole _) (Memref.whole cc0_scratch0) (Memref.isWhole_whole _)) Q := by
  simp only [cc0__nms_tiles_kernel_eq_skeleton]; unfold cc0__nms_tiles_kernel_skel
  have h0 : (0#32 : BitVec 32) = cnt 0 ∧ Before A 0 0 X5 ((Memref.whole cc0_scratch0).view.writes (Elt Ideal) (Memref.whole cc0_scratch0).view.junk
      [⟨Rect.unit (s := S8x32384) ![0, 0] S8x32384.size inb_S8x32384_S8x32384_0_0, k0_pay1 (F := Ideal)⟩]) :=
    ⟨rfl, before_zero _ _ (zero_room _)⟩
  iintro ⟨H0, H1, H2, H3, H4, H5, H6, Hk⟩
  sl_exec
  sl_step
  obtain rfl := hL5.2.all (by decide +kernel)
  iapply Hk
  isplitl [H0]; · iexact H0
  isplitl [H1]; · iexact H1
  isplitl [H2]; · iexact H2
  isplitl [H3]; · iexact H3
  isplitl [H4]; · iexact H4
  isplitl [H5]; · iexact H5
  iexists _
  iexact H6

end Cert.KernelIdeal.Nms

end
-- ==== Proof.Launch.lean ====
/-
  The kernel's launch: host lines, the kernel's region, host lines.
-/
module

public import proofs.«01_k».proof.Proof.Whole
public import proofs.«01_k».proof.Proof.HostLines
public import proofs.«01_k».proof.Proof.Gen.KernelIdeal.Points
public import Idealize.ShloMosaic.Lib.Pipeline.FrameSuffix
public import Idealize.ShloMosaic.Lib.Pipeline.Kit
public import Idealize.ShloMosaic.Lib.StableHlo.Run

@[expose] public section

set_option maxRecDepth 16384

noncomputable section

namespace Cert.KernelIdeal.Nms

open scoped Classical
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.Nms

local notation "𝕄" => MT nD τ sig Unit (Elt Ideal) ℕ (UR sig nD τ) ℕ

variable (E : Dev nD → Valuation τ sig (Elt Ideal))

/-- The kernel's arguments, of the buffers' contents when it begins. -/
def args (c : Dev nD) : Args where
  rows := E c (Proc.devRef .tc main_v27)
  px1 := E c (Proc.devRef .tc main_v35)
  py1 := E c (Proc.devRef .tc main_v37)
  px2 := E c (Proc.devRef .tc main_v39)
  py2 := E c (Proc.devRef .tc main_v41)

/-- The pipeline's data: the arguments are staged whole and left alone, the result is the greedy order's marks. -/
def dats (_ : Fin 1) (c : Dev nD) : Dat τ (Elt Ideal) Unit ℕ (UR sig nD τ) ℕ (cfg0 (F := Ideal)) c where
  A w := E c (Proc.devRef .tc (Pipeline.arrRef spec0 w))
  after w _ := match w with
    | ⟨0, _⟩ => (args E c).rows
    | ⟨1, _⟩ => (args E c).px1
    | ⟨2, _⟩ => (args E c).py1
    | ⟨3, _⟩ => (args E c).px2
    | ⟨4, _⟩ => (args E c).py2
    | ⟨5, _⟩ => (args E c).marks
  Φ _ := Pipeline.ΦA spec0 c
  q _ := fullShare
  owed _ := 0

/-- The kernel begins with the box rows staged whole. -/
theorem before_0 (c : Dev nD) (d) : (dats E 0 c).before 0 t0_0 d = (args E c).rows := by
  rw [(dats E 0 c).before_fetched 0 t0_0 (fetch0_0 t0_0)]; unfold Dat.fetched Dat.blockOf; dsimp only [dats]
  exact funext fun y => congrArg (E c (Proc.devRef .tc main_v27)) (funext fun a => Fin.ext ((win0 0).rect_emb_val_of_index_zero t0_0 a rfl y))

/-- The kernel begins with the plane of left edges staged whole. -/
theorem before_1 (c : Dev nD) (d) : (dats E 0 c).before 1 t0_0 d = (args E c).px1 := by
  rw [(dats E 0 c).before_fetched 1 t0_0 (fetch0_1 t0_0)]; unfold Dat.fetched Dat.blockOf; dsimp only [dats]
  exact funext fun y => congrArg (E c (Proc.devRef .tc main_v35)) (funext fun a => Fin.ext ((win0 1).rect_emb_val_of_index_zero t0_0 a rfl y))

/-- The kernel begins with the plane of top edges staged whole. -/
theorem before_2 (c : Dev nD) (d) : (dats E 0 c).before 2 t0_0 d = (args E c).py1 := by
  rw [(dats E 0 c).before_fetched 2 t0_0 (fetch0_2 t0_0)]; unfold Dat.fetched Dat.blockOf; dsimp only [dats]
  exact funext fun y => congrArg (E c (Proc.devRef .tc main_v37)) (funext fun a => Fin.ext ((win0 2).rect_emb_val_of_index_zero t0_0 a rfl y))

/-- The kernel begins with the plane of right edges staged whole. -/
theorem before_3 (c : Dev nD) (d) : (dats E 0 c).before 3 t0_0 d = (args E c).px2 := by
  rw [(dats E 0 c).before_fetched 3 t0_0 (fetch0_3 t0_0)]; unfold Dat.fetched Dat.blockOf; dsimp only [dats]
  exact funext fun y => congrArg (E c (Proc.devRef .tc main_v39)) (funext fun a => Fin.ext ((win0 3).rect_emb_val_of_index_zero t0_0 a rfl y))

/-- The kernel begins with the plane of bottom edges staged whole. -/
theorem before_4 (c : Dev nD) (d) : (dats E 0 c).before 4 t0_0 d = (args E c).py2 := by
  rw [(dats E 0 c).before_fetched 4 t0_0 (fetch0_4 t0_0)]; unfold Dat.fetched Dat.blockOf; dsimp only [dats]
  exact funext fun y => congrArg (E c (Proc.devRef .tc main_v41)) (funext fun a => Fin.ext ((win0 4).rect_emb_val_of_index_zero t0_0 a rfl y))

/-- Holding the elements of a whole buffer is holding the buffer. -/
theorem held_whole (c : Dev nD) (b : Ref sig .tc) (X : Buf (Elt Ideal) ((c.tc : Thread nD τ).loc b)) :
    ((View.whole b).loc (c.tc : Thread nD τ) ↦[(View.whole b).set]{fullShare} X : sProp 𝕄) = ((c.tc : Thread nD τ).loc b ↦{fullShare} X) := by
  rw [View.set_whole]

/-- The kernel as the pipeline calls it. -/
theorem body_obligation (c : Dev nD) (hA : (args E c).Ok) : BodyObligation (dats E 0 c) (defs₀ (F := Ideal)) 𝒱₀ () Set.univ := fun t => by
  obtain rfl := fin_N0 t
  rw [bigSep_W0, bigSep_W0]
  sl_whnfR [defs₀, Defs.onTc]
  simp only [owns_whole_eq]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl,
    show stage0_4 0 = Memref.whole cc0_stg4_0 from rfl, show stage0_5 0 = Memref.whole cc0_stg5_0 from rfl]
  rw [show (dats E 0 c).Φ t0_0.castSucc = Pipeline.ΦA spec0 c from rfl, show (dats E 0 c).Φ t0_0.succ = Pipeline.ΦA spec0 c from rfl]
  unfold Pipeline.ΦA
  rw [scopedRest0_eq]
  iintro ⟨⟨⟨%fs, Hs⟩, HP⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before_0] at hf0
  rw [before_1] at hf1
  rw [before_2] at hf2
  rw [before_3] at hf3
  rw [before_4] at hf4
  subst hf0 hf1 hf2 hf3 hf4
  have hw := whole c (args E c) hA f5 fs
  have e0 : at' c (Memref.whole cc0_stg0_0) (args E c).rows = ((c.tc : Thread nD τ).loc cc0_stg0_0 ↦{fullShare} (args E c).rows) := held_whole c cc0_stg0_0 _
  have e1 : at' c (Memref.whole cc0_stg1_0) (args E c).px1 = ((c.tc : Thread nD τ).loc cc0_stg1_0 ↦{fullShare} (args E c).px1) := held_whole c cc0_stg1_0 _
  have e2 : at' c (Memref.whole cc0_stg2_0) (args E c).py1 = ((c.tc : Thread nD τ).loc cc0_stg2_0 ↦{fullShare} (args E c).py1) := held_whole c cc0_stg2_0 _
  have e3 : at' c (Memref.whole cc0_stg3_0) (args E c).px2 = ((c.tc : Thread nD τ).loc cc0_stg3_0 ↦{fullShare} (args E c).px2) := held_whole c cc0_stg3_0 _
  have e4 : at' c (Memref.whole cc0_stg4_0) (args E c).py2 = ((c.tc : Thread nD τ).loc cc0_stg4_0 ↦{fullShare} (args E c).py2) := held_whole c cc0_stg4_0 _
  have e5 : ∀ X, at' c (Memref.whole cc0_stg5_0) X = ((c.tc : Thread nD τ).loc cc0_stg5_0 ↦{fullShare} X) := held_whole c cc0_stg5_0
  have e6 : ∀ X, at' c (Memref.whole cc0_scratch0) X = ((c.tc : Thread nD τ).loc cc0_scratch0 ↦{fullShare} X) := held_whole c cc0_scratch0
  simp only [e0, e1, e2, e3, e4, e5, e6] at hw
  iapply hw
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, H4, H5, ⟨%Y, Hs⟩⟩
  isplitl [Hs HP]
  · isplitl [Hs]
    · iexists _; iexact Hs
    iexact HP
  isplitl [HO]; · iexact HO
  isplitl [H0]; · iexists _; isplitr; swap; (· iexact H0); ipureintro; dsimp only [dats]
  isplitl [H1]; · iexists _; isplitr; swap; (· iexact H1); ipureintro; dsimp only [dats]
  isplitl [H2]; · iexists _; isplitr; swap; (· iexact H2); ipureintro; dsimp only [dats]
  isplitl [H3]; · iexists _; isplitr; swap; (· iexact H3); ipureintro; dsimp only [dats]
  isplitl [H4]; · iexists _; isplitr; swap; (· iexact H4); ipureintro; dsimp only [dats]
  iexists _; isplitr; swap; (· iexact H5); ipureintro; dsimp only [dats]

/-- After the run the result array is the greedy order's marks. -/
theorem array_result (c : Dev nD) : (dats E 0 c).arrAt 5 (cfg0 (F := Ideal)).N = (args E c).marks := by
  refine (dats E 0 c).arrAt_eq_of_cover 5 (args E c).marks (fun t _ => ?_) (fun i => ⟨t0_0, flush0_5 t0_0, ?_⟩)
  · obtain rfl := fin_N0 t
    exact funext fun y => congrArg (args E c).marks (funext fun a => Fin.ext ((win0 5).rect_emb_val_of_index_zero t0_0 a rfl y).symm)
  · have h := ((win0 5).blk t0_0).view.emb_mem_set i
    rwa [show ((win0 5).blk t0_0).view.emb i = i from funext fun a => Fin.ext ((win0 5).rect_emb_val_of_index_zero t0_0 a rfl i)] at h

variable (m : (ℓ : Loc nD τ sig) → Buf (Elt Ideal) ℓ) (ρ : Dev nD → PrngReg)

/-- The buffers' contents when the kernel begins: the launch's, after the first host lines. -/
def entry (c : Dev nD) : Valuation τ sig (Elt Ideal) := fun b => StableHlo.after pre.flatten (fun b => m (c, b)) b

/-- The whole run: the kernel's result array, and every other buffer after the last host lines. -/
theorem run (hA : ∀ c, (args (entry m) c).Ok) : θ_run defs (onTc (τ := τ) (main (F := Ideal))) ⟨m, fun _ => 0, ρ⟩
    (fun r => Pipeline.FramePost (cfgs (F := Ideal)) (dats (entry m)) 0 (Pipeline.afterTail₀ (cfgs (F := Ideal)) (dats (entry m)) 0 (entry m) [hostOps1]) r ∧ r.2.sem = fun _ => 0) :=
  Pipeline.θ_run_frame_around cfgs (dats (entry m)) 0 launch0 defs₀ 𝒱₀ m ρ main (fun c => (body_obligation (entry m) c (hA c)).loose)
    (fun c w => (dats (entry m) 0 c).share_full (fun _ => rfl) w) (fun _ _ => rfl) (entry m) [hostOps1] tail_sub tail_fresh tail_keep
    (Pipeline.hmain_around cfgs 0 defs₀ 𝒱₀ m main pre [hostOps1] pre_sub pre_fresh (fun c => main_chain c))
    (fun _ _ => rfl) (fun _ _ => rfl) _ (fun _ h => h)

end Cert.KernelIdeal.Nms

end
-- ==== Proof.Arguments.lean ====
/-
  The kernel's arguments: the sorted boxes with their candidate flags, then zeros.
-/
module

public import proofs.«01_k».proof.Proof.Planes
public import proofs.«01_k».proof.Proof.Order
public import proofs.«01_k».proof.Proof.Launch

@[expose] public section

set_option maxRecDepth 16384

noncomputable section

namespace Cert.KernelIdeal.Nms

open scoped Classical
open Idealize.ShloMosaic Cert.KernelIdeal Cert.KernelIdeal.Gen Cert.Nms

section Sorted

variable (V : Valuation τ sig (Elt Ideal))

/-- The boxes. -/
abbrev boxes : S20000x4.Idx → EReal := V (Proc.devRef .tc main_arg0)
/-- The scores. -/
abbrev scores : S20000.Idx → EReal := V (Proc.devRef .tc main_arg1)

theorem sorted_1 (i : Fin 20000) :
    (StableHlo.after hostOps0 V (Proc.devRef .tc main_v10_1) : S20000.Idx → EReal) (ix1 i) = boxes V (ix2 (place (scores V) i) 0) := by
  repeat after_reads_at
  exact sorted_at (scores V) _ (fun _ => rfl) _ i

theorem sorted_2 (i : Fin 20000) :
    (StableHlo.after hostOps0 V (Proc.devRef .tc main_v10_2) : S20000.Idx → EReal) (ix1 i) = boxes V (ix2 (place (scores V) i) 1) := by
  repeat after_reads_at
  exact sorted_at (scores V) _ (fun _ => rfl) _ i

theorem sorted_3 (i : Fin 20000) :
    (StableHlo.after hostOps0 V (Proc.devRef .tc main_v10_3) : S20000.Idx → EReal) (ix1 i) = boxes V (ix2 (place (scores V) i) 2) := by
  repeat after_reads_at
  exact sorted_at (scores V) _ (fun _ => rfl) _ i

theorem sorted_4 (i : Fin 20000) :
    (StableHlo.after hostOps0 V (Proc.devRef .tc main_v10_4) : S20000.Idx → EReal) (ix1 i) = boxes V (ix2 (place (scores V) i) 3) := by
  repeat after_reads_at
  exact sorted_at (scores V) _ (fun _ => rfl) _ i

theorem sorted_5 (i : Fin 20000) :
    (StableHlo.after hostOps0 V (Proc.devRef .tc main_v10_5) : S20000.Idx → BitVec 32) (ix1 i) = BitVec.ofNat 32 (place (scores V) i).1 := by
  repeat after_reads_at
  exact sorted_at (scores V) _ (fun _ => rfl) _ i

theorem flag_const : (StableHlo.after hostOps0 V (Proc.devRef .tc main_c) : S_.Idx → BitVec 32) = constantI S_ 32 0#32 := by
  after_reads_simp

theorem flag_value (p : Prop) [Decidable p] : (FloatOps.uitofp FTy.f32 (BitVec.ofBool (decide p)) : Ideal .f32) = ind p := by
  by_cases h : p
  · rw [ind_true h, decide_eq_true h]; show (((BitVec.ofBool true).toNat : ℝ) : EReal) = 1; simp
  · rw [ind_false h, decide_eq_false h]; show (((BitVec.ofBool false).toNat : ℝ) : EReal) = 0; simp

/-- The comparison of a sorted score with the floor, the scores sorted negated and negated again. -/
theorem flag_sorted (i : Fin 20000) (rows : S20000.Idx → EReal × EReal × EReal × EReal × EReal × BitVec 32) (hr : ∀ k, (rows k).1 = -scores V k) :
    (FloatOps.uitofp FTy.f32 (BitVec.ofBool (decide (floor < -Host.sortBy S20000 0 (comparator_f32_f32_f32_f32_f32_i32_d0 (F := Ideal)) rows (fun k => -scores V k) (ix1 i)))) : Ideal .f32)
      = ind (floor < scores V (ix1 (place (scores V) i))) := by
  rw [sorted_at (scores V) rows hr, neg_neg]
  exact flag_value _

theorem flag_at (i : Fin 20000) :
    (StableHlo.after hostOps0 V (Proc.devRef .tc main_v14) : S20000.Idx → EReal) (ix1 i) = ind (floor < scores V (ix1 (place (scores V) i))) := by
  repeat after_reads_at
  exact flag_sorted V i _ (fun _ => rfl)

end Sorted

variable (m : (ℓ : Loc nD τ sig) → Buf (Elt Ideal) ℓ) (c : Dev nD)

/-- The launch's contents on one device. -/
abbrev start : Valuation τ sig (Elt Ideal) := fun b => m (c, b)

theorem entry_eq (b) : entry m c b = StableHlo.after mid (StableHlo.after hostOps0 (start m c)) b := by
  unfold entry; rw [pre_flatten, StableHlo.after_append]

/-- The boxes and scores at the launch. -/
abbrev B0 : S20000x4.Idx → EReal := boxes (start m c)
abbrev S0 : S20000.Idx → EReal := scores (start m c)

theorem args_flag (i : Fin 20224) : (args (entry m) c).rows (ix2 i 4) = ind (candAt (S0 m c) i.1) := by
  unfold args
  dsimp only
  rw [entry_eq]
  refine (rows_4 _ (flag_const _) i).trans ?_
  by_cases h : i.1 < 20000
  · rw [dif_pos h, flag_at]
    exact ind_congr ⟨fun hf => ⟨h, hf⟩, fun ⟨_, hf⟩ => hf⟩
  · rw [dif_neg h, ind_false fun ⟨h', _⟩ => h h']

theorem args_ok : (args (entry m) c).Ok := fun i => by
  rw [args_flag]
  by_cases h : candAt (S0 m c) i.1
  · exact .inr (ind_true h)
  · exact .inl (ind_false h)

theorem args_cand (i : ℕ) : (args (entry m) c).cand i ↔ candAt (S0 m c) i := by
  constructor
  · rintro ⟨h, hr⟩
    rw [args_flag] at hr
    by_contra hn
    rw [ind_false hn] at hr
    exact zero_ne_one hr
  · intro h
    obtain ⟨hi, _⟩ := id h
    exact ⟨by omega, by rw [args_flag]; exact ind_true h⟩

theorem args_row (i : ℕ) (h : i < 20000) : (args (entry m) c).row i = boxAt (B0 m c) (place (S0 m c) ⟨i, h⟩) := by
  unfold Args.row args boxAt
  rw [dif_pos (by omega)]
  dsimp only
  simp only [entry_eq]
  rw [Box.mk.injEq]
  refine ⟨?_, ?_, ?_, ?_⟩
  · exact ((rows_0 _ ⟨i, by omega⟩).trans (dif_pos h)).trans (sorted_1 (start m c) _)
  · exact ((rows_1 _ ⟨i, by omega⟩).trans (dif_pos h)).trans (sorted_2 (start m c) _)
  · exact ((rows_2 _ ⟨i, by omega⟩).trans (dif_pos h)).trans (sorted_3 (start m c) _)
  · exact ((rows_3 _ ⟨i, by omega⟩).trans (dif_pos h)).trans (sorted_4 (start m c) _)

theorem args_col (i : ℕ) (h : i < 20000) : (args (entry m) c).col i = boxAt (B0 m c) (place (S0 m c) ⟨i, h⟩) := by
  have e : i / 256 * 256 + i % 256 = i := by omega
  have e' : ∀ h', (⟨i / 256 * 256 + i % 256, h'⟩ : Fin 20000) = ⟨i, h⟩ := fun _ => Fin.ext e
  have h1 : i / 256 * 256 + i % 256 < 20000 := by omega
  have h2 : i / 256 < 79 := by omega
  have h3 : i % 256 < 256 := by omega
  unfold Args.col args boxAt
  rw [dif_pos h2]
  dsimp only
  simp only [entry_eq]
  rw [Box.mk.injEq]
  refine ⟨?_, ?_, ?_, ?_⟩
  · exact ((plane_0 _ ⟨_, h2⟩ ⟨_, h3⟩).trans (dif_pos h1)).trans ((sorted_1 (start m c) _).trans (by rw [e']))
  · exact ((plane_1 _ ⟨_, h2⟩ ⟨_, h3⟩).trans (dif_pos h1)).trans ((sorted_2 (start m c) _).trans (by rw [e']))
  · exact ((plane_2 _ ⟨_, h2⟩ ⟨_, h3⟩).trans (dif_pos h1)).trans ((sorted_3 (start m c) _).trans (by rw [e']))
  · exact ((plane_3 _ ⟨_, h2⟩ ⟨_, h3⟩).trans (dif_pos h1)).trans ((sorted_4 (start m c) _).trans (by rw [e']))

/-- The kernel keeps the boxes that the greedy rule keeps. -/
theorem args_kept (i : ℕ) (h : i < 20000) : (args (entry m) c).kept i ↔ keptAt (B0 m c) (S0 m c) i := by
  refine keeps_unique _ _ _ 20000 (fun i hi => ?_) i h
  unfold Args.kept
  rw [keeps_iff, args_cand]
  refine and_congr_right fun _ => forall_congr' fun j => forall_congr' fun hj => imp_congr_right fun _ => not_congr ?_
  unfold Args.over overAt
  rw [args_row m c i hi, args_col m c j (by omega)]
  exact ⟨fun ho => ⟨hi, by omega, ho⟩, fun ⟨_, _, ho⟩ => ho⟩

end Cert.KernelIdeal.Nms

end
-- ==== Proof.Scatter.lean ====
/-
  A scatter through the order of the boxes puts each place's value at its box.
-/
module

public import proofs.«01_k».proof.Proof.Order
public import Idealize.ShloMosaic.Lib.Routing.OpsSet
public import Idealize.ShloMosaic.Lib.Pointwise

@[expose] public section

set_option maxRecDepth 16384

noncomputable section

namespace Cert.Nms

open Idealize.ShloMosaic
open Cert.KernelIdeal (S20000 S20000x4 S20000x1)

variable (s : S20000.Idx → EReal)

/-- The number of a box as a signed word. -/
theorem word_toInt (p : Fin 20000) : (BitVec.ofNat 32 p.1).toInt = (p.1 : Int) := by
  have := p.2
  rw [BitVec.toInt_eq_toNat_of_lt] <;> rw [BitVec.toNat_ofNat, Nat.mod_eq_of_lt (by omega)]
  omega

/-- The number of a box is not negative, so that the wrap of negative numbers leaves it alone. -/
theorem word_wrap (p : Fin 20000) (w : BitVec 32) :
    Scalar.select (IntOp.cmpi .slt (BitVec.ofNat 32 p.1) 0#32) w (BitVec.ofNat 32 p.1) = BitVec.ofNat 32 p.1 := by
  have h : IntOp.cmpi .slt (BitVec.ofNat 32 p.1) 0#32 = 0#1 := by
    show BitVec.ofBool ((BitVec.ofNat 32 p.1).slt 0#32) = 0#1
    rw [BitVec.slt, word_toInt, show (0#32 : BitVec 32).toInt = 0 from rfl, decide_eq_false (by omega)]
    rfl
  rw [h]; rfl

theorem scatter_place {α : Type} (d : ScatterDims S20000 S20000x1 S20000) (hiw : d.insertedWindowDims = [0]) (hsd : d.scatterDimsToOperandDims = [0])
    (hivd : d.indexVectorDim = 1) (x0 : S20000.Idx → α) (idx : IVec S20000x1 32) (upd : S20000.Idx → α)
    (hidx : ∀ i : Fin 20000, idx (ix2 i 0) = BitVec.ofNat 32 (place s i).1) (p : Fin 20000) :
    Host.scatter d (fun _ b => b) x0 idx upd (ix1 p) = upd (ix1 (placeOf s p)) := by
  refine (Routing.scatter_set_signed d hiw hsd hivd x0 idx upd p (upd (ix1 (placeOf s p))) (fun i hi => ?_)).1 ⟨placeOf s p, ?_⟩
  · have h : place s i = p := by
      have h' : (idx (ix2 i 0)).toInt = (p.1 : Int) := hi
      rw [hidx, word_toInt] at h'
      exact Fin.ext (by omega)
    rw [show i = placeOf s p from place_injective s (h.trans (place_placeOf s p).symm)]
    rfl
  · have h := hidx (placeOf s p)
    rw [place_placeOf] at h
    exact (congrArg BitVec.toInt h).trans (word_toInt p)

end Cert.Nms

end
-- ==== Proof.Tail.lean ====
/-
  The host lines after the kernel: the marks scattered back to the boxes' own order, and the products.
-/
module

public import proofs.«01_k».proof.Proof.Arguments
public import proofs.«01_k».proof.Proof.Scatter

@[expose] public section

set_option maxRecDepth 16384

noncomputable section

namespace Cert.KernelIdeal.Nms

open scoped Classical
open Idealize.ShloMosaic Cert.KernelIdeal Cert.KernelIdeal.Gen Cert.Nms

section Marks

variable (W : Valuation τ sig (Elt Ideal)) (s : S20000.Idx → EReal) (K : ℕ → Prop)
  (ho : ∀ i : Fin 20000, (W (Proc.devRef .tc main_v10_5) : S20000.Idx → BitVec 32) (ix1 i) = BitVec.ofNat 32 (place s i).1)
  (hk : ∀ (t : Fin 79) (j : Fin 256), 256 * t.1 + j.1 < 20000 → (W (Proc.devRef .tc main_v42) : S79x256.Idx → EReal) (ix2 t j) = ind (K (256 * t.1 + j.1)))
include ho hk

/-- The marks in the boxes' own order. -/
theorem scattered (p : Fin 20000) :
    (StableHlo.after hostOps1 W (Proc.devRef .tc main_v52) : S20000.Idx → EReal) (ix1 p) = ind (K (placeOf s p).1) := by
  after_reads_simp
  refine (scatter_place s _ rfl rfl rfl _ _ _ (fun i => ?_) p).trans ?_
  · pointwise
    rw [ho]
    exact word_wrap _ _
  · pointwise
    have h := hk ⟨(placeOf s p).1 / 256, by omega⟩ ⟨(placeOf s p).1 % 256, by omega⟩ (by dsimp only; omega)
    dsimp only at h
    rw [show 256 * ((placeOf s p).1 / 256) + (placeOf s p).1 % 256 = (placeOf s p).1 by omega] at h
    exact h

end Marks

/-- The result's first four columns are the boxes times the marks, and its last the scores times the marks. -/
theorem tail_at (W : Valuation τ sig (Elt Ideal)) (p : Fin 20000) (k : Fin 5) (z : EReal)
    (hz : (StableHlo.after hostOps1 W (Proc.devRef .tc main_v52) : S20000.Idx → EReal) (ix1 p) = z) :
    (StableHlo.after hostOps1 W (Proc.devRef .tc main_v58) : S20000x5.Idx → EReal) (ix2 p k)
      = if h : k.1 < 4 then boxes W (ix2 p ⟨k.1, h⟩) * z else scores W (ix1 p) * z := by
  rw [← hz]
  fin_cases k
  all_goals
    repeat after_reads_at

end Cert.KernelIdeal.Nms

end
-- ==== Proof.KernelEnd.lean ====
/-
  The kernel program's run: the arguments unchanged, the result the greedy rule's.
-/
module

public import proofs.«01_k».proof.Proof.Tail

@[expose] public section

set_option maxRecDepth 16384

noncomputable section

namespace Cert.KernelIdeal.Nms

open scoped Classical
open Idealize.ShloMosaic Idealize.ShloMosaic.TcCoe Idealize.SL.Sem Cert.KernelIdeal Cert.KernelIdeal.Gen Cert.Nms

variable (m : (ℓ : Loc nD τ sig) → Buf (Elt Ideal) ℓ) (ρ : Dev nD → PrngReg) (c : Dev nD)

/-- What the buffers hold after the kernel. -/
def left : Valuation τ sig (Elt Ideal) :=
  Pipeline.withArrays spec0 c (entry m c) fun w => (dats (entry m) 0 c).arrAt w (cfg0 (F := Ideal)).N

theorem entry_arg0 : entry m c (Proc.devRef .tc main_arg0) = start m c (Proc.devRef .tc main_arg0) := by
  rw [entry_eq]; after_reads_simp
theorem entry_arg1 : entry m c (Proc.devRef .tc main_arg1) = start m c (Proc.devRef .tc main_arg1) := by
  rw [entry_eq]; after_reads_simp
theorem entry_order : entry m c (Proc.devRef .tc main_v10_5) = StableHlo.after hostOps0 (start m c) (Proc.devRef .tc main_v10_5) := by
  rw [entry_eq]; generalize StableHlo.after hostOps0 (start m c) = V; after_reads_simp

theorem left_arg0 : left m c (Proc.devRef .tc main_arg0) = start m c (Proc.devRef .tc main_arg0) :=
  (Pipeline.withArrays_of_ne _ _ _ _ main_arg0 (by decide)).trans (entry_arg0 m c)
theorem left_arg1 : left m c (Proc.devRef .tc main_arg1) = start m c (Proc.devRef .tc main_arg1) :=
  (Pipeline.withArrays_of_ne _ _ _ _ main_arg1 (by decide)).trans (entry_arg1 m c)
theorem left_order : left m c (Proc.devRef .tc main_v10_5) = StableHlo.after hostOps0 (start m c) (Proc.devRef .tc main_v10_5) :=
  (Pipeline.withArrays_of_ne _ _ _ _ main_v10_5 (by decide)).trans (entry_order m c)
theorem left_marks : left m c (Proc.devRef .tc main_v42) = (args (entry m) c).marks :=
  (Pipeline.withArrays_arr spec0 (by decide) c (entry m c) _ 5).trans (array_result (entry m) c)

/-- The result of the whole program. -/
theorem final_result (p : Fin 20000) (k : Fin 5) :
    (StableHlo.after hostOps1 (left m c) (Proc.devRef .tc main_v58) : S20000x5.Idx → EReal) (ix2 p k) = result (B0 m c) (S0 m c) p k := by
  have hz := scattered (left m c) (S0 m c) (keptAt (B0 m c) (S0 m c)) (fun i => by rw [left_order]; exact sorted_5 _ i)
    (fun t j h => by rw [left_marks]; exact ind_congr (args_kept m c _ h)) p
  refine (tail_at (left m c) p k _ hz).trans ?_
  unfold result
  by_cases hk : k.1 < 4
  · rw [dif_pos hk, dif_pos hk]
    exact congrArg (fun f : S20000x4.Idx → EReal => f (ix2 p ⟨k.1, hk⟩) * _) (left_arg0 m c)
  · rw [dif_neg hk, dif_neg hk]
    exact congrArg (fun f : S20000.Idx → EReal => f (ix1 p) * _) (left_arg1 m c)

/-- The result as one array. -/
def out (b : S20000x4.Idx → EReal) (s : S20000.Idx → EReal) : S20000x5.Idx → EReal := fun i => result b s (i 0) (i 1)

theorem tail_rest (b : Ref sig .tc) (hs : b.isScoped = false) (ha : ∀ w, (spec0 w).arr.view.ref ≠ b)
    {r : PUnit × MemSt nD τ sig (Elt Ideal)}
    (h : Pipeline.FramePost (cfgs (F := Ideal)) (dats (entry m)) 0 (Pipeline.afterTail₀ (cfgs (F := Ideal)) (dats (entry m)) 0 (entry m) [hostOps1]) r) :
    r.2.mem ((c.tc : Thread nD τ).loc b) = StableHlo.after hostOps1 (left m c) (Proc.devRef .tc b) :=
  (h c).2 b (Pipeline.mem_restRefs_of b hs ha)

theorem ends : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v58) = out (B0 m c) (S0 m c)) ∧ r.2.sem = fun _ => 0) := by
  refine (θ_run defs _ _).mono (fun r h => ⟨fun c => ⟨?_, ?_, ?_⟩, h.2⟩) (run m ρ fun c => args_ok m c)
  · rw [tail_rest m c main_arg0 rfl (by decide) h.1]
    exact (StableHlo.after_of_writes_sub hostOps1 _ tail_writes (by decide)).trans (left_arg0 m c)
  · rw [tail_rest m c main_arg1 rfl (by decide) h.1]
    exact (StableHlo.after_of_writes_sub hostOps1 _ tail_writes (by decide)).trans (left_arg1 m c)
  · rw [tail_rest m c main_v58 rfl (by decide) h.1]
    refine funext fun i => ?_
    rw [show i = ix2 (i 0) (i 1) from funext fun a => by fin_cases a <;> rfl]
    exact final_result m c (i 0) (i 1)

end Cert.KernelIdeal.Nms

end
-- ==== Proof.RefFrame.lean ====
/-
  The reference program's run: which buffers its stretches leave alone.
-/
module

public import proofs.«01_k».proof.Proof.Order
public import proofs.«01_k».proof.Proof.Gen.ReferenceIdeal.Run
public import Idealize.ShloMosaic.Lib.Quiescent

@[expose] public section

set_option maxRecDepth 16384

noncomputable section

namespace Cert.ReferenceIdeal.Nms

open Idealize.ShloMosaic Idealize.ShloMosaic.TcCoe Idealize.SL.Sem Cert.ReferenceIdeal Cert.ReferenceIdeal.Gen Cert.ReferenceIdeal.Value
open Idealize.ShloMosaic.StableHlo (after afterL after_of_writes_sub)

variable (m : (ℓ : Loc nD τ sig) → Buf (Elt Ideal) ℓ) (ρ : Dev nD → PrngReg) (c : Dev nD)

/-- The buffers the loop writes. -/
abbrev loopW : List (Ref sig .tc) := condOps_W ++ while0Ops0_W ++ while0Ops0_1_W ++ while0Ops0_2_W ++ while0Ops0_3_W ++ while0Ops0_4_W

/-- A trip leaves alone what the loop does not write. -/
theorem trip_keeps (r : Ref sig .tc) (h : r ∉ loopW) (V : Valuation τ sig (Elt Ideal)) :
    afterL bodyI (after condOps V) (Proc.devRef .tc r) = V (Proc.devRef .tc r) := by
  simp only [loopW, List.mem_append, not_or] at h
  obtain ⟨⟨⟨⟨⟨hc, h0⟩, h1⟩, h2⟩, h3⟩, h4⟩ := h
  simp only [bodyI, StableHlo.afterL_cons, StableHlo.afterL_nil]
  rw [after_of_writes_sub _ _ while0Ops0_4_writes h4, after_of_writes_sub _ _ while0Ops0_3_writes h3, after_of_writes_sub _ _ while0Ops0_2_writes h2,
    after_of_writes_sub _ _ while0Ops0_1_writes h1, after_of_writes_sub _ _ while0Ops0_writes h0, after_of_writes_sub _ _ condOps_writes hc]

/-- The loop leaves alone what it does not write. -/
theorem loop_keeps (r : Ref sig .tc) (h : r ∉ loopW) : ∀ k, atK m k c (Proc.devRef .tc r) = StableHlo.entryContents preI m c (Proc.devRef .tc r)
  | 0 => rfl
  | k + 1 => (trip_keeps r h _).trans (loop_keeps r h k)

/-- What the buffers hold after the loop. -/
def left : Valuation τ sig (Elt Ideal) := after condOps (atK m 20000 c)

theorem left_keeps (r : Ref sig .tc) (h : r ∉ loopW) : left m c (Proc.devRef .tc r) = StableHlo.entryContents preI m c (Proc.devRef .tc r) :=
  (after_of_writes_sub _ _ condOps_writes (fun hc => h (by simp only [loopW, List.mem_append]; tauto))).trans (loop_keeps m c r h 20000)

/-- The loop's entry keeps what no stretch before the loop writes. -/
theorem entry_keeps (r : Ref sig .tc) (h : r ∉ hostOps0_W ++ hostOps0_1_W ++ hostOps0_2_W ++ hostOps0_3_W ++ hostOps0_4_W) :
    StableHlo.entryContents preI m c (Proc.devRef .tc r) = m (c, Proc.devRef .tc r) := by
  simp only [List.mem_append, not_or] at h
  obtain ⟨⟨⟨⟨h0, h1⟩, h2⟩, h3⟩, h4⟩ := h
  simp only [StableHlo.entryContents, preI, StableHlo.afterL_cons, StableHlo.afterL_nil]
  rw [after_of_writes_sub _ _ hostOps0_4_writes h4, after_of_writes_sub _ _ hostOps0_3_writes h3, after_of_writes_sub _ _ hostOps0_2_writes h2,
    after_of_writes_sub _ _ hostOps0_1_writes h1, after_of_writes_sub _ _ hostOps0_writes h0]

theorem left_arg0 : left m c (Proc.devRef .tc main_arg0) = m (c, Proc.devRef .tc main_arg0) :=
  (left_keeps m c main_arg0 (by decide)).trans (entry_keeps m c main_arg0 (by decide))
theorem left_arg1 : left m c (Proc.devRef .tc main_arg1) = m (c, Proc.devRef .tc main_arg1) :=
  (left_keeps m c main_arg1 (by decide)).trans (entry_keeps m c main_arg1 (by decide))

/-- Every execution ends with the arguments unchanged, the result what the last stretch makes of the loop's end, and no
    counter raised. -/
theorem ends : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v33) = after hostOps0_5 (left m c) (Proc.devRef .tc main_v33)) ∧ r.2.sem = fun _ => 0) := by
  refine (θ_run defs _ _).mono (fun r h => ⟨fun c => ⟨?_, ?_, ?_⟩, sem_eq_zero_of_no_sems rfl _⟩) (run_fold m ρ)
  · exact (h c main_arg0 rfl).trans ((by after_reads_simp : after hostOps0_5 (left m c) (Proc.devRef .tc main_arg0) = left m c (Proc.devRef .tc main_arg0)).trans (left_arg0 m c))
  · exact (h c main_arg1 rfl).trans ((by after_reads_simp : after hostOps0_5 (left m c) (Proc.devRef .tc main_arg1) = left m c (Proc.devRef .tc main_arg1)).trans (left_arg1 m c))
  · exact h c main_v33 rfl

end Cert.ReferenceIdeal.Nms

end
-- ==== Proof.RefOrder.lean ====
/-
  What the reference's loop starts from: the boxes in the order of their scores, their areas, the candidates.
-/
module

public import proofs.«01_k».proof.Proof.RefFrame
public import proofs.«01_k».proof.Proof.Scatter
public import Idealize.ShloMosaic.Lib.StableHlo.ReadAt

@[expose] public section

set_option maxRecDepth 16384

noncomputable section

namespace Cert.ReferenceIdeal.Nms

open Idealize.ShloMosaic Idealize.ShloMosaic.TcCoe Cert.ReferenceIdeal Cert.ReferenceIdeal.Gen Cert.Nms

variable (V : Valuation τ sig (Elt Ideal)) (s : S20000.Idx → EReal)

/-- The argument sort gives the order. -/
theorem order_word (hs : ∀ k, (V (Proc.devRef .tc main_v0) : S20000.Idx → EReal) k = -s k) (i : Fin 20000) :
    (StableHlo.after hostOps0_1 V (Proc.devRef .tc main_v1) : S20000.Idx → BitVec 32) (ix1 i) = BitVec.ofNat 32 (place s i).1 := by
  after_reads_simp
  exact order_at s _ hs i

/-- The number of a box lies in the range that the take accepts. -/
theorem in_range (p : Fin 20000) : Finset.fold IntOp.andi 1#1 (fun _ : Fin 1 => IntOp.andi (IntOp.cmpi .sge (BitVec.ofNat 32 p.1) 0#32) (IntOp.cmpi .sle (BitVec.ofNat 32 p.1) 19999#32)) Finset.univ = 1#1 := by
  have h0 : IntOp.cmpi .sge (BitVec.ofNat 32 p.1) 0#32 = 1#1 := by
    show BitVec.ofBool ((0#32).sle (BitVec.ofNat 32 p.1)) = 1#1
    rw [BitVec.sle, word_toInt, show (0#32 : BitVec 32).toInt = 0 from rfl, decide_eq_true (by omega)]
    rfl
  have h1 : IntOp.cmpi .sle (BitVec.ofNat 32 p.1) 19999#32 = 1#1 := by
    show BitVec.ofBool ((BitVec.ofNat 32 p.1).sle 19999#32) = 1#1
    rw [BitVec.sle, word_toInt, show (19999#32 : BitVec 32).toInt = 19999 from rfl, decide_eq_true (by have := p.2; omega)]
    rfl
  rw [h0, h1]
  rfl

/-- The column of positions that a take reads. -/
theorem column_at (o : S20000.Idx → BitVec 32) (ho : ∀ i, o (ix1 i) = BitVec.ofNat 32 (place s i).1) (z w : S20000.Idx → BitVec 32) (hz : z = fun _ => 0#32) (i : Fin 20000) :
    (broadcastInDim S20000x1 ![0] bcast_S20000_S20000x1_0 (select (cmpi .slt o z) w o) : S20000x1.Idx → BitVec 32) (ix2 i 0) = BitVec.ofNat 32 (place s i).1 := by
  subst hz
  pointwise
  rw [ho]
  exact word_wrap _ _

theorem boxes_taken (ho : ∀ i, (V (Proc.devRef .tc main_v1) : S20000.Idx → BitVec 32) (ix1 i) = BitVec.ofNat 32 (place s i).1) (i : Fin 20000) (k : Fin 4) :
    (StableHlo.after hostOps0_2 V (Proc.devRef .tc main_v2) : S20000x4.Idx → EReal) (ix2 i k) = (V (Proc.devRef .tc main_arg0) : S20000x4.Idx → EReal) (ix2 (place s i) k) := by
  after_reads_at
  rw [ho i, word_wrap, in_range]
  exact Routing.gather_row gather_S20000x4_S20000x1_S20000x4_1_0_n_n_0_1_14 rfl rfl rfl rfl rfl _ _ i k (place s i) (column_at s _ ho _ _ rfl i) (by norm_num)

theorem scores_taken (ho : ∀ i, (V (Proc.devRef .tc main_v1) : S20000.Idx → BitVec 32) (ix1 i) = BitVec.ofNat 32 (place s i).1) (i : Fin 20000) :
    (StableHlo.after hostOps0_3 V (Proc.devRef .tc main_v3) : S20000.Idx → EReal) (ix1 i) = (V (Proc.devRef .tc main_arg1) : S20000.Idx → EReal) (ix1 (place s i)) := by
  after_reads_at
  rw [ho i, word_wrap, in_range]
  exact Routing.gather_take1 gather_S20000_S20000x1_S20000_n_0_n_n_0_1_1 rfl rfl rfl rfl _ _ i (place s i) (column_at s _ ho _ _ rfl i) (by norm_num)

theorem first_boxes : StableHlo.after hostOps0_4 V (Proc.devRef .tc main_v18_0) = V (Proc.devRef .tc main_v2) := by
  after_reads_simp
  all_goals rfl

theorem first_area (B : S20000x4.Idx → EReal) (hB : V (Proc.devRef .tc main_v2) = B) (i : Fin 20000) :
    (StableHlo.after hostOps0_4 V (Proc.devRef .tc main_v18_1) : S20000.Idx → EReal) (ix1 i) = (B (ix2 i 2) - B (ix2 i 0)) * (B (ix2 i 3) - B (ix2 i 1)) := by
  subst hB
  after_reads_simp
  dsimp only [id]
  clean_types
  pointwise

theorem first_number (i : Fin 20000) : (StableHlo.after hostOps0_4 V (Proc.devRef .tc main_v18_2) : S20000.Idx → BitVec 32) (ix1 i) = BitVec.ofNat 32 i.1 := by
  after_reads_at
  rfl

theorem first_trip (i : S_.Idx) : (StableHlo.after hostOps0_4 V (Proc.devRef .tc main_v18_4) : S_.Idx → BitVec 32) i = 0#32 := by
  after_reads_at
  rfl

theorem first_kept (i : Fin 20000) : (StableHlo.after hostOps0_4 V (Proc.devRef .tc main_v18_5) : S20000.Idx → BitVec 1) (ix1 i)
    = BitVec.ofBool (decide (floor < (V (Proc.devRef .tc main_v3) : S20000.Idx → EReal) (ix1 i))) := by
  after_reads_simp
  dsimp only [id]
  clean_types
  pointwise
  rfl

end Cert.ReferenceIdeal.Nms

end
-- ==== Proof.RefStep.lean ====
/-
  One trip of the reference's loop: what a place's mark becomes.
-/
module

public import proofs.«01_k».proof.Proof.RefOrder
public import Idealize.ShloMosaic.Lib.DynamicIndex

@[expose] public section

set_option maxRecDepth 16384

noncomputable section

namespace Cert.ReferenceIdeal.Nms

open Idealize.ShloMosaic Idealize.ShloMosaic.TcCoe Cert.ReferenceIdeal Cert.ReferenceIdeal.Gen Cert.ReferenceIdeal.Value Cert.Nms

variable (V : Valuation τ sig (Elt Ideal)) (B : S20000x4.Idx → EReal) (A : S20000.Idx → EReal) (N : S20000.Idx → BitVec 32) (K : S20000.Idx → BitVec 1) (n : Fin 20000)

/-- The word of a trip's number, wrapped as an index is, read signed. -/
theorem index_value (w : BitVec 32) : (Scalar.select (IntOp.cmpi .slt (BitVec.ofNat 32 n.1) 0#32) w (BitVec.ofNat 32 n.1)).toInt = (n.1 : Int) := by
  rw [word_wrap, word_toInt]

/-- One entry of a line, taken by the trip's number. -/
theorem entry_at {α : Type} (x : S20000.Idx → α) (st : Fin 1 → Int) (hs : st 0 = (n.1 : Int)) (j : S_.Idx) :
    (shapeCast S_ (Host.dynamicSlice S1 x st sliceFits_S20000_S1) shapeCasts_S1_S_ : S_.Idx → α) j = x (ix1 n) := by
  pointwise
  refine congrArg x (congrArg ix1 (Fin.ext ?_))
  dsimp only
  unfold Host.clampedStart
  rw [hs]
  simp
  omega

/-- One row of an array of boxes, taken by the trip's number. -/
theorem row_at (st : Fin 2 → Int) (h0 : st 0 = (n.1 : Int)) (h1 : st 1 = 0) (k : Fin 4) :
    (shapeCast S4 (Host.dynamicSlice S1x4 B st sliceFits_S20000x4_S1x4) shapeCasts_S1x4_S4 : S4.Idx → EReal) (ix1 k) = B (ix2 n k) := by
  pointwise
  refine congrArg B (congrArg₂ ix2 (Fin.ext ?_) (Fin.ext ?_))
  · dsimp only
    unfold Host.clampedStart
    rw [h0]
    simp
    omega
  · dsimp only
    unfold Host.clampedStart
    rw [h1]
    simp

theorem box_row (hB : V (Proc.devRef .tc main_v18_0) = B) (hn : V (Proc.devRef .tc main_v18_4) = fun _ => BitVec.ofNat 32 n.1) (k : Fin 4) :
    (res_main_while0b_v43 V : S4.Idx → EReal) (ix1 k) = B (ix2 n k) := by
  unfold res_main_while0b_v43 res_main_while0b_v35
  rw [hB, hn]
  exact row_at B n _ (index_value n _) rfl k

/-- Box `p` of an array of boxes. -/
def boxOf (p : Fin 20000) : Box := ⟨B (ix2 p 0), B (ix2 p 1), B (ix2 p 2), B (ix2 p 3)⟩

theorem inter_value (hB : V (Proc.devRef .tc main_v18_0) = B) (hn : V (Proc.devRef .tc main_v18_4) = fun _ => BitVec.ofNat 32 n.1) (q : Fin 20000) :
    (res_main_while0b_v72 V : S20000.Idx → EReal) (ix1 q) = inter (boxOf B n) (boxOf B q) := by
  have h := box_row V B n hB hn
  unfold res_main_while0b_v72
  rw [hB]
  generalize res_main_while0b_v43 V = R at h ⊢
  clean_types
  pointwise
  rw [h, h, h, h]
  rw [show id (constant (F := Ideal) S_ .f32 0x00000000#32) ix0 = (0 : EReal) from Ideal.ofBits_zero .f32]
  simp only [inter, boxOf, max_comm (0 : EReal)]

/-- One trip: a place stays marked unless the trip's own box is marked, comes before it and overlaps it. -/
theorem step_at (hB : V (Proc.devRef .tc main_v18_0) = B) (hA : V (Proc.devRef .tc main_v18_1) = A) (hN : V (Proc.devRef .tc main_v18_2) = N)
    (hK : V (Proc.devRef .tc main_v18_5) = K) (hn : V (Proc.devRef .tc main_v18_4) = fun _ => BitVec.ofNat 32 n.1) (q : Fin 20000) :
    (step_main_v18_5 V : S20000.Idx → BitVec 1) (ix1 q)
      = IntOp.andi (K (ix1 q)) (~~~IntOp.andi (IntOp.andi
          (BitVec.ofBool (decide (half < Ideal.div (inter (boxOf B n) (boxOf B q)) (A (ix1 n) + A (ix1 q) - inter (boxOf B n) (boxOf B q) + tiny))))
          (IntOp.cmpi .sgt (N (ix1 q)) (BitVec.ofNat 32 n.1))) (K (ix1 n))) := by
  have h := inter_value V B n hB hn q
  unfold step_main_v18_5
  rw [hA, hN, hK, hn]
  generalize res_main_while0b_v72 V = R at h ⊢
  rw [show shapeCast S_ (Host.dynamicSlice S1 A _ _) _ = fun _ => A (ix1 n) from funext fun j => entry_at n A _ (index_value n _) j,
    show shapeCast S_ (Host.dynamicSlice S1 K _ _) _ = fun _ => K (ix1 n) from funext fun j => entry_at n K _ (index_value n _) j]
  clean_types
  dsimp only [id]
  pointwise
  rw [h]
  rfl

end Cert.ReferenceIdeal.Nms

end
-- ==== Proof.RefLoop.lean ====
/-
  The reference's loop: after `k` trips a place is marked when it is a candidate that no kept box among the first `k`
  places, and before it, overlaps.
-/
module

public import proofs.«01_k».proof.Proof.RefStep

@[expose] public section

set_option maxRecDepth 16384

noncomputable section

namespace Cert.ReferenceIdeal.Nms

open scoped Classical
open Idealize.ShloMosaic Idealize.ShloMosaic.TcCoe Cert.ReferenceIdeal Cert.ReferenceIdeal.Gen Cert.ReferenceIdeal.Value Cert.Nms

/-- The bit of a proposition. -/
def bit (p : Prop) : BitVec 1 := BitVec.ofBool (decide p)

theorem bit_of (p : Prop) [h : Decidable p] : BitVec.ofBool (decide p) = bit p := by
  unfold bit
  rw [Subsingleton.elim h (Classical.propDecidable p)]

theorem bit_congr {p q : Prop} (h : p ↔ q) : bit p = bit q := by rw [propext h]

theorem bit_trip (p o l r : Prop) : IntOp.andi (bit p) (~~~IntOp.andi (IntOp.andi (bit o) (bit l)) (bit r)) = bit (p ∧ ¬ (o ∧ l ∧ r)) := by
  by_cases p <;> by_cases o <;> by_cases l <;> by_cases r <;> simp [bit, *, IntOp.andi]

/-- The order of two places as words. -/
theorem later_word (q n : Fin 20000) : IntOp.cmpi .sgt (BitVec.ofNat 32 q.1) (BitVec.ofNat 32 n.1) = bit (n.1 < q.1) := by
  show BitVec.ofBool ((BitVec.ofNat 32 n.1).slt (BitVec.ofNat 32 q.1)) = _
  rw [BitVec.slt, word_toInt, word_toInt]
  simp [bit]

variable (b : S20000x4.Idx → EReal) (s : S20000.Idx → EReal)

/-- What place `q`'s mark says after `k` trips. -/
def marked (k q : ℕ) : Prop := candAt s q ∧ ∀ j, j < k → j < q → keptAt b s j → ¬ overAt b s q j

theorem marked_zero (q : ℕ) : marked b s 0 q ↔ candAt s q := by simp [marked]

theorem marked_kept (k q : ℕ) (h : q ≤ k) : marked b s k q ↔ keptAt b s q := by
  unfold marked keptAt
  rw [keeps_iff]
  exact and_congr_right fun _ => ⟨fun g j hj => g j (hj.trans_le h) hj, fun g j _ hj => g j hj⟩

theorem marked_succ (k q : ℕ) : marked b s (k + 1) q ↔ marked b s k q ∧ ¬ (overAt b s q k ∧ k < q ∧ marked b s k k) := by
  rw [marked_kept b s k k le_rfl]
  unfold marked
  constructor
  · rintro ⟨h, g⟩
    exact ⟨⟨h, fun j hj => g j (by omega)⟩, fun ⟨ho, hq, hk⟩ => g k (by omega) hq hk ho⟩
  · rintro ⟨⟨h, g⟩, f⟩
    refine ⟨h, fun j hj hq hk ho => ?_⟩
    by_cases e : j = k
    · subst e; exact f ⟨ho, hq, hk⟩
    · exact g j (by omega) hq hk ho

/-- The loop's buffers after `k` trips. -/
structure After (V : Valuation τ sig (Elt Ideal)) (k : ℕ) : Prop where
  boxes : ∀ (i : Fin 20000) (a : Fin 4), (V (Proc.devRef .tc main_v18_0) : S20000x4.Idx → EReal) (ix2 i a) = b (ix2 (place s i) a)
  areas : ∀ i : Fin 20000, (V (Proc.devRef .tc main_v18_1) : S20000.Idx → EReal) (ix1 i) = (boxAt b (place s i)).area
  numbers : ∀ i : Fin 20000, (V (Proc.devRef .tc main_v18_2) : S20000.Idx → BitVec 32) (ix1 i) = BitVec.ofNat 32 i.1
  trip : ∀ j : S_.Idx, (V (Proc.devRef .tc main_v18_4) : S_.Idx → BitVec 32) j = BitVec.ofNat 32 k
  marks : ∀ i : Fin 20000, (V (Proc.devRef .tc main_v18_5) : S20000.Idx → BitVec 1) (ix1 i) = bit (marked b s k i.1)

variable {b s}

theorem After.next {V : Valuation τ sig (Elt Ideal)} {k : ℕ} (h : After b s V k) (hk : k < 20000) : After b s (STEP V) (k + 1) where
  boxes := by rw [STEP_main_v18_0]; exact h.boxes
  areas := by rw [STEP_main_v18_1]; exact h.areas
  numbers := by rw [STEP_main_v18_2]; exact h.numbers
  trip j := by
    rw [STEP_main_v18_4]
    show IntOp.addi ((V (Proc.devRef .tc main_v18_4) : S_.Idx → BitVec 32) j) 1#32 = _
    rw [h.trip]
    show BitVec.ofNat 32 k + BitVec.ofNat 32 1 = _
    rw [← BitVec.ofNat_add]
  marks i := by
    have hb : ∀ p : Fin 20000, boxOf (V (Proc.devRef .tc main_v18_0)) p = boxAt b (place s p) := fun p => by
      unfold boxOf boxAt
      rw [Box.mk.injEq]
      exact ⟨h.boxes p 0, h.boxes p 1, h.boxes p 2, h.boxes p 3⟩
    rw [STEP_main_v18_5, step_at V _ _ _ _ ⟨k, hk⟩ rfl rfl rfl rfl (funext fun j => h.trip j) i]
    rw [h.marks, h.marks, h.areas, h.areas, h.numbers, later_word, hb, hb, bit_of]
    refine Eq.trans ?_ ((bit_trip _ (overAt b s i.1 k) (k < i.1) (marked b s k k)).trans (bit_congr (marked_succ b s k i.1).symm))
    have ho : overAt b s i.1 k ↔ Over (boxAt b (place s ⟨k, hk⟩)) (boxAt b (place s i)) :=
      ⟨fun ⟨_, _, g⟩ => (over_comm _ _).1 g, fun g => ⟨i.2, hk, (over_comm _ _).1 g⟩⟩
    rw [bit_congr ho]
    rfl

theorem After.iterate {V : Valuation τ sig (Elt Ideal)} (h : After b s V 0) : ∀ k, k ≤ 20000 → After b s (STEP^[k] V) k
  | 0, _ => h
  | k + 1, hk => by
    rw [Function.iterate_succ_apply']
    exact (After.iterate h k (by omega)).next (by omega)

variable (m : (ℓ : Loc nD τ sig) → Buf (Elt Ideal) ℓ) (c : Dev nD)

/-- The boxes and the scores that the reference is given. -/
abbrev B0 : S20000x4.Idx → EReal := m (c, Proc.devRef .tc main_arg0)
abbrev S0 : S20000.Idx → EReal := m (c, Proc.devRef .tc main_arg1)

theorem entry_order (i : Fin 20000) : (StableHlo.entryContents preI m c (Proc.devRef .tc main_v1) : S20000.Idx → BitVec 32) (ix1 i) = BitVec.ofNat 32 (place (S0 m c) i).1 := by
  simp only [StableHlo.entryContents, preI, StableHlo.afterL_cons, StableHlo.afterL_nil]
  rw [StableHlo.after_of_writes_sub hostOps0_4 _ hostOps0_4_writes (by decide), StableHlo.after_of_writes_sub hostOps0_3 _ hostOps0_3_writes (by decide),
    StableHlo.after_of_writes_sub hostOps0_2 _ hostOps0_2_writes (by decide)]
  exact order_word _ _ (fun k => by after_reads_simp; rfl) i

/-- The loop's entry. -/
theorem entry_after : After (B0 m c) (S0 m c) (StableHlo.entryContents preI m c) 0 := by
  simp only [StableHlo.entryContents, preI, StableHlo.afterL_cons, StableHlo.afterL_nil]
  set V0 := StableHlo.launchContents m c with hV0
  have ho : ∀ i : Fin 20000, (StableHlo.after hostOps0_1 (StableHlo.after hostOps0 V0) (Proc.devRef .tc main_v1) : S20000.Idx → BitVec 32) (ix1 i) = BitVec.ofNat 32 (place (S0 m c) i).1 :=
    order_word _ _ (fun k => by after_reads_simp; rfl)
  set V1 := StableHlo.after hostOps0_1 (StableHlo.after hostOps0 V0) with hV1
  have a0 : V1 (Proc.devRef .tc main_arg0) = B0 m c := by rw [hV1]; after_reads_simp; rfl
  have a1 : V1 (Proc.devRef .tc main_arg1) = S0 m c := by rw [hV1]; after_reads_simp; rfl
  have hb : ∀ (i : Fin 20000) (k : Fin 4), (StableHlo.after hostOps0_3 (StableHlo.after hostOps0_2 V1) (Proc.devRef .tc main_v2) : S20000x4.Idx → EReal) (ix2 i k) = B0 m c (ix2 (place (S0 m c) i) k) := fun i k => by
    rw [StableHlo.after_of_writes_sub hostOps0_3 _ hostOps0_3_writes (by decide), boxes_taken V1 (S0 m c) ho i k, a0]
  have hs : ∀ i : Fin 20000, (StableHlo.after hostOps0_3 (StableHlo.after hostOps0_2 V1) (Proc.devRef .tc main_v3) : S20000.Idx → EReal) (ix1 i) = S0 m c (ix1 (place (S0 m c) i)) := fun i => by
    rw [scores_taken (StableHlo.after hostOps0_2 V1) (S0 m c) (fun i => by rw [StableHlo.after_of_writes_sub hostOps0_2 _ hostOps0_2_writes (by decide)]; exact ho i) i,
      StableHlo.after_of_writes_sub hostOps0_2 _ hostOps0_2_writes (by decide), a1]
  generalize StableHlo.after hostOps0_3 (StableHlo.after hostOps0_2 V1) = W at hb hs ⊢
  refine ⟨fun i a => ?_, fun i => ?_, first_number W, first_trip W, fun i => ?_⟩
  · rw [first_boxes]; exact hb i a
  · rw [first_area W _ rfl, hb, hb, hb, hb]; rfl
  · rw [first_kept, hs, bit_of]
    have hc : floor < S0 m c (ix1 (place (S0 m c) i)) ↔ candAt (S0 m c) i.1 := ⟨fun h => ⟨i.2, h⟩, fun ⟨_, h⟩ => h⟩
    exact bit_congr (hc.trans (marked_zero (B0 m c) (S0 m c) i.1).symm)

/-- The marks after the loop: the greedy rule's. -/
theorem left_marks (i : Fin 20000) : (left m c (Proc.devRef .tc main_v18_5) : S20000.Idx → BitVec 1) (ix1 i) = bit (keptAt (B0 m c) (S0 m c) i.1) := by
  unfold left
  rw [StableHlo.after_of_writes_sub condOps _ condOps_writes (by decide), atK_agree m c 20000 main_v18_5 (by decide)]
  rw [((entry_after m c).iterate 20000 le_rfl).marks i]
  exact bit_congr (marked_kept _ _ _ _ i.2.le)

theorem left_order (i : Fin 20000) : (left m c (Proc.devRef .tc main_v1) : S20000.Idx → BitVec 32) (ix1 i) = BitVec.ofNat 32 (place (S0 m c) i).1 := by
  rw [left_keeps m c main_v1 (by decide)]; exact entry_order m c i

end Cert.ReferenceIdeal.Nms

end
-- ==== Proof.RefEnd.lean ====
/-
  The reference's result: the marks put back in the boxes' own order, and the products with them.
-/
module

public import proofs.«01_k».proof.Proof.RefLoop
public import Idealize.ShloMosaic.Lib.StableHlo.ReadAt

@[expose] public section

set_option maxRecDepth 16384

noncomputable section

namespace Cert.ReferenceIdeal.Nms

open scoped Classical
open Idealize.ShloMosaic Idealize.ShloMosaic.TcCoe Cert.ReferenceIdeal Cert.ReferenceIdeal.Gen Cert.Nms

variable (W : Valuation τ sig (Elt Ideal)) (s : S20000.Idx → EReal) (K : ℕ → Prop)

theorem bit_value (p : Prop) : (FloatOps.uitofp (F := Ideal) .f32 (bit p) : EReal) = ind p := by
  show (((bit p).toNat : ℝ) : EReal) = ind p
  by_cases h : p <;> simp [bit, ind, h]

/-- The marks in the order of the boxes. -/
theorem scattered (ho : ∀ i, (W (Proc.devRef .tc main_v1) : S20000.Idx → BitVec 32) (ix1 i) = BitVec.ofNat 32 (place s i).1)
    (hk : ∀ i : Fin 20000, (W (Proc.devRef .tc main_v18_5) : S20000.Idx → BitVec 1) (ix1 i) = bit (K i.1)) (p : Fin 20000) :
    (StableHlo.after hostOps0_5 W (Proc.devRef .tc main_v27) : S20000.Idx → EReal) (ix1 p) = ind (K (placeOf s p).1) := by
  after_reads_at
  refine (congrArg (FloatOps.uitofp (F := Ideal) .f32) ?_).trans (bit_value (K (placeOf s p).1))
  refine (scatter_place s scatter_S20000_S20000x1_S20000_n_0_0_1 rfl rfl rfl _ _ _ (fun i => ?_) p).trans (hk _)
  exact column_at s _ ho _ _ rfl i

theorem products (B : S20000x4.Idx → EReal) (S : S20000.Idx → EReal) (hB : W (Proc.devRef .tc main_arg0) = B) (hS : W (Proc.devRef .tc main_arg1) = S)
    (p : Fin 20000) (k : Fin 5) (z : EReal) (hz : (StableHlo.after hostOps0_5 W (Proc.devRef .tc main_v27) : S20000.Idx → EReal) (ix1 p) = z) :
    (StableHlo.after hostOps0_5 W (Proc.devRef .tc main_v33) : S20000x5.Idx → EReal) (ix2 p k)
      = if h : k.1 < 4 then B (ix2 p ⟨k.1, h⟩) * z else S (ix1 p) * z := by
  subst hz hB hS
  fin_cases k
  all_goals repeat after_reads_at

variable (m : (ℓ : Loc nD τ sig) → Buf (Elt Ideal) ℓ) (c : Dev nD)

/-- The reference's result is the greedy rule's. -/
theorem final_result (p : Fin 20000) (k : Fin 5) :
    (StableHlo.after hostOps0_5 (left m c) (Proc.devRef .tc main_v33) : S20000x5.Idx → EReal) (ix2 p k) = result (B0 m c) (S0 m c) p k :=
  products (left m c) (B0 m c) (S0 m c) (left_arg0 m c) (left_arg1 m c) p k _
    (scattered (left m c) (S0 m c) (keptAt (B0 m c) (S0 m c)) (left_order m c) (left_marks m c) p)

end Cert.ReferenceIdeal.Nms

end
-- ==== Proof.lean ====
/-
  The claims, from the two programs' runs: both end with their arguments unchanged and every counter at zero, and both
  results are the greedy rule's.
-/
module

public import proofs.«01_k».proof.Defs
public import proofs.«01_k».proof.Proof.KernelEnd
public import proofs.«01_k».proof.Proof.RefEnd

@[expose] public section

open Idealize.ShloMosaic Idealize.ShloMosaic.TcCoe Idealize.SL.Sem

/-- The idealized kernel's frame. -/
theorem Cert.Proof.kernel_frame : Cert.quiescent_KernelIdeal := fun m g _ =>
  (θ_run _ _ _).mono (fun _ h => ⟨fun c => ⟨(h.1 c).1, (h.1 c).2.1⟩, h.2⟩) (Cert.KernelIdeal.Nms.ends m g)

/-- The idealized reference's frame. -/
theorem Cert.Proof.reference_frame : Cert.quiescent_ReferenceIdeal := fun m g _ =>
  (θ_run _ _ _).mono (fun _ h => ⟨fun c => ⟨(h.1 c).1, (h.1 c).2.1⟩, h.2⟩) (Cert.ReferenceIdeal.Nms.ends m g)

/-- The reference's result is what the greedy rule makes of its arguments. -/
theorem Cert.Proof.reference_out (m : (ℓ : Loc Cert.ReferenceIdeal.nD Cert.ReferenceIdeal.τ Cert.ReferenceIdeal.sig) → Buf (Elt Ideal) ℓ) (c : Dev Cert.ReferenceIdeal.nD) :
    StableHlo.after Cert.ReferenceIdeal.Gen.hostOps0_5 (Cert.ReferenceIdeal.Nms.left m c) (Proc.devRef .tc Cert.ReferenceIdeal.main_v33)
      = Cert.KernelIdeal.Nms.out (Cert.ReferenceIdeal.Nms.B0 m c) (Cert.ReferenceIdeal.Nms.S0 m c) := by
  refine funext fun i => ?_
  rw [show i = ix2 (i 0) (i 1) from funext fun a => by fin_cases a <;> rfl]
  exact Cert.ReferenceIdeal.Nms.final_result m c (i 0) (i 1)

/-- The two results are equal. -/
theorem Cert.Proof.same : Cert.algebraic_KernelIdeal_ReferenceIdeal := by
  intro m g m' g' _ hm
  refine ⟨fun c => Cert.KernelIdeal.Nms.out (Cert.KernelIdeal.Nms.B0 m c) (Cert.KernelIdeal.Nms.S0 m c),
    (θ_run _ _ _).mono (fun _ h c => ⟨(h.1 c).2.2, (h.1 c).1, (h.1 c).2.1⟩) (Cert.KernelIdeal.Nms.ends m g),
    (θ_run _ _ _).mono (fun _ h c => ⟨?_, (h.1 c).1, (h.1 c).2.1⟩) (Cert.ReferenceIdeal.Nms.ends m' g')⟩
  refine (h.1 c).2.2.trans ((Cert.Proof.reference_out m' c).trans ?_)
  exact congrArg₂ Cert.KernelIdeal.Nms.out (hm c).1 (hm c).2

theorem Cert.Proof.claim : Cert.Claim :=
  ⟨inferInstance, inferInstance, Cert.Proof.kernel_frame, Cert.Proof.reference_frame, Cert.Proof.same⟩
